-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_classes [hPre_finite_and_classes : Cert.Pre_finite_and_classes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_classes [hPre_finite_and_classes : Cert.Pre_finite_and_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_classes [hKernelIdeal : Cert.KernelIdeal.Facts] [hPre_finite_and_classes : Cert.Pre_finite_and_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_classes [hReferenceIdeal : Cert.ReferenceIdeal.Facts] [hPre_finite_and_classes : Cert.Pre_finite_and_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_classes [hKernelIdeal : Cert.KernelIdeal.Facts] [hReferenceIdeal : Cert.ReferenceIdeal.Facts] [hPre_finite_and_classes : Cert.Pre_finite_and_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_classes : Cert.Pre_finite_and_classes.Facts),
    quiescent_Kernel (hKernel := hKernel)
    ∧ quiescent_KernelIdeal (hKernelIdeal := hKernelIdeal)
    ∧ quiescent_KernelIdeal_pre_finite_and_classes (hKernelIdeal := hKernelIdeal) (hPre_finite_and_classes := hPre_finite_and_classes)
    ∧ quiescent_ReferenceIdeal (hReferenceIdeal := hReferenceIdeal)
    ∧ quiescent_ReferenceIdeal_pre_finite_and_classes (hReferenceIdeal := hReferenceIdeal) (hPre_finite_and_classes := hPre_finite_and_classes)
    ∧ preserves_Kernel_KernelIdeal
    ∧ algebraic_KernelIdeal_ReferenceIdeal_pre_finite_and_classes (hKernelIdeal := hKernelIdeal) (hReferenceIdeal := hReferenceIdeal) (hPre_finite_and_classes := hPre_finite_and_classes)
-- ==== Pre_finite_and_classes.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x19x512x512 : S_.BroadcastsInDim S8x19x512x512 (![] : Fin 0 → Fin S8x19x512x512.rank)
  bcast_S_S8x512x512 : S_.BroadcastsInDim S8x512x512 (![] : Fin 0 → Fin S8x512x512.rank)

variable [Facts]

def fn {F : FTy → Type} [FloatOps F] (main_arg0 : FVec F S8x19x512x512 .f32) (main_arg1 : IVec S8x512x512 32) : IVec S8x19x512x512 1 × IVec S8x512x512 1 :=
  let main_v0 : FVec F S8x19x512x512 .f32 := Host.absf main_arg0
  let main_cst : FVec F S_ .f32 := constant S_ .f32 0x7F800000#32
  let main_v1 : FVec F S8x19x512x512 .f32 := broadcastInDim S8x19x512x512 ![] bcast_S_S8x19x512x512 main_cst
  let main_v2 : IVec S8x19x512x512 1 := cmpf .olt main_v0 main_v1
  let main_c : IVec S_ 32 := constantI S_ 32 0#32
  let main_v3 : IVec S8x512x512 32 := broadcastInDim S8x512x512 ![] bcast_S_S8x512x512 main_c
  let main_v4 : IVec S8x512x512 1 := cmpi .sge main_arg1 main_v3
  let main_c_0 : IVec S_ 32 := constantI S_ 32 19#32
  let main_v5 : IVec S8x512x512 32 := broadcastInDim S8x512x512 ![] bcast_S_S8x512x512 main_c_0
  let main_v6 : IVec S8x512x512 1 := cmpi .slt main_arg1 main_v5
  let main_v7 : IVec S8x512x512 1 := andi main_v4 main_v6
  (main_v2, main_v7)
-- ==== Kernel.lean ====
abbrev S8x19x512x512 : Shape := ⟨4, ![8, 19, 512, 512]⟩
abbrev S8x512x512 : Shape := ⟨3, ![8, 512, 512]⟩
abbrev S8x128 : Shape := ⟨2, ![8, 128]⟩
abbrev S1x19x64x512 : Shape := ⟨4, ![1, 19, 64, 512]⟩
abbrev S1x64x512 : Shape := ⟨3, ![1, 64, 512]⟩
abbrev S240x512 : Shape := ⟨2, ![240, 512]⟩
abbrev S32x512 : Shape := ⟨2, ![32, 512]⟩
abbrev S1x1x64x512 : Shape := ⟨4, ![1, 1, 64, 512]⟩
abbrev S64x512 : Shape := ⟨2, ![64, 512]⟩
abbrev S8x512 : Shape := ⟨2, ![8, 512]⟩
abbrev S16x512 : Shape := ⟨2, ![16, 512]⟩
abbrev S1 : Shape := ⟨1, ![1]⟩
abbrev S1x1x1 : Shape := ⟨3, ![1, 1, 1]⟩
abbrev S1x512 : Shape := ⟨2, ![1, 512]⟩
abbrev S512 : Shape := ⟨1, ![512]⟩
abbrev S1x8x512 : Shape := ⟨3, ![1, 8, 512]⟩
abbrev S1x1 : Shape := ⟨2, ![1, 1]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x128, .f32⟩
  | .hbm, ⟨3, _⟩ => ⟨S1x1, .f32⟩
  | .hbm, ⟨4, _⟩ => ⟨S_, .f32⟩
  | .local _ .vmem, ⟨0, _⟩ => ⟨S1x19x64x512, .f32⟩
  | .local _ .vmem, ⟨1, _⟩ => ⟨S1x19x64x512, .f32⟩
  | .local _ .vmem, ⟨2, _⟩ => ⟨S1x64x512, .i32⟩
  | .local _ .vmem, ⟨3, _⟩ => ⟨S1x64x512, .i32⟩
  | .local _ .vmem, ⟨4, _⟩ => ⟨S8x128, .f32⟩
  | .local _ .vmem, ⟨5, _⟩ => ⟨S240x512, .f32⟩
  | .local _ .vmem, ⟨6, _⟩ => ⟨S240x512, .f32⟩
  | .local _ .vmem, ⟨7, _⟩ => ⟨S32x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v1324 : BitVec 1 := Scalar.cmpi .eq arg0 c63_i32
  let v1325 : BitVec 32 := Scalar.extui v1324
  let c0_i32_470 : BitVec 32 := 0#32
  let v1326 : BitVec 1 := Scalar.cmpi .ne v1325 c0_i32_470
  v1326

def cc0_transform_0 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8x19x512x512 : Shape := ⟨4, ![8, 19, 512, 512]⟩
abbrev S8x512x512 : Shape := ⟨3, ![8, 512, 512]⟩
abbrev S8x512x512x19 : Shape := ⟨4, ![8, 512, 512, 19]⟩
abbrev S2097152x19 : Shape := ⟨2, ![2097152, 19]⟩
abbrev S2097152 : Shape := ⟨1, ![2097152]⟩
abbrev S_ : Shape := ⟨0, ![]⟩
abbrev S2097152x1 : Shape := ⟨2, ![2097152, 1]⟩
abbrev S19 : Shape := ⟨1, ![19]⟩
abbrev S1x19 : Shape := ⟨2, ![1, 19]⟩
abbrev S30 : Shape := ⟨1, ![30]⟩
abbrev S1x30 : Shape := ⟨2, ![1, 30]⟩
abbrev S2097152x30 : Shape := ⟨2, ![2097152, 30]⟩

abbrev nBuf : Space → Nat
  | .hbm => 128
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x512x512x19, .f32⟩
  | .hbm, ⟨3, _⟩ => ⟨S2097152x19, .f32⟩
  | .hbm, ⟨4, _⟩ => ⟨S2097152, .i32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S2097152x1, .i32⟩
  | .hbm, ⟨9, _⟩ => ⟨S19, .i32⟩
  | .hbm, ⟨10, _⟩ => ⟨S1x19, .i32⟩
  | .hbm, ⟨11, _⟩ => ⟨S2097152x19, .i32⟩
  | .hbm, ⟨12, _⟩ => ⟨S2097152x19, .i32⟩
  | .hbm, ⟨13, _⟩ => ⟨S2097152x19, .i1⟩
  | .hbm, ⟨14, _⟩ => ⟨S2097152x19, .f32⟩
  | .hbm, ⟨15, _⟩ => ⟨S_, .f32⟩
  | .hbm, ⟨16, _⟩ => ⟨S2097152, .f32⟩
  | .hbm, ⟨17, _⟩ => ⟨S_, .f32⟩
  | .hbm, ⟨18, _⟩ => ⟨S2097152, .f32⟩
  | .hbm, ⟨19, _⟩ => ⟨S2097152, .f32⟩
  | .hbm, ⟨20, _⟩ => ⟨S2097152x1, .f32⟩
  | .hbm, ⟨21, _⟩ => ⟨S2097152x19, .f32⟩
  | .hbm, ⟨22, _⟩ => ⟨S2097152x19, .f32⟩
  | .hbm, ⟨23, _⟩ => ⟨S2097152x19, .f32⟩
  | .hbm, ⟨24, _⟩ => ⟨S_, .f32⟩
  | .hbm, ⟨25, _⟩ => ⟨S2097152, .f32⟩
  | .hbm, ⟨26, _⟩ => ⟨S2097152x1, .f32⟩
  | .hbm, ⟨27, _⟩ => ⟨S2097152x19, .f32⟩
  | .hbm, ⟨28, _⟩ => ⟨S2097152x19, .f32⟩
  | .hbm, ⟨29, _⟩ => ⟨S2097152x19, .f32⟩
  | .hbm, ⟨30, _⟩ => ⟨S_, .f32⟩
  | .hbm, ⟨31, _⟩ => ⟨S2097152, .f32⟩
  | .hbm, ⟨32, _⟩ => ⟨S_, .f32⟩
  | .hbm, ⟨33, _⟩ => ⟨S2097152, .f32⟩
  | .hbm, ⟨34, _⟩ => ⟨S2097152, .f32⟩
  | .hbm, ⟨35, _⟩ => ⟨S2097152, .f32⟩
  | .hbm, ⟨36, _⟩ => ⟨S_, .f32⟩
  | .hbm, ⟨37, _⟩ => ⟨S_, .f32⟩
  | .hbm, ⟨38, _⟩ => ⟨S2097152, .f32⟩
  | .hbm, ⟨39, _⟩ => ⟨S2097152, .f32⟩
  | .hbm, ⟨40, _⟩ => ⟨S2097152x1, .f32⟩
  | .hbm, ⟨41, _⟩ => ⟨S30, .i32⟩
  | .hbm, ⟨42, _⟩ => ⟨S30, .f32⟩
  | .hbm, ⟨43, _⟩ => ⟨S_, .f32⟩
  | .hbm, ⟨44, _⟩ => ⟨S30, .f32⟩
  | .hbm, ⟨45, _⟩ => ⟨S30, .f32⟩
  | .hbm, ⟨46, _⟩ => ⟨S1x30, .f32⟩
  | .hbm, ⟨47, _⟩ => ⟨S_, .i32⟩
  | .hbm, ⟨48, _⟩ => ⟨S30, .i32⟩
  | .hbm, ⟨49, _⟩ => ⟨S30, .i32⟩
  | .hbm, ⟨50, _⟩ => ⟨S30, .f32⟩
  | .hbm, ⟨51, _⟩ => ⟨S_, .f32⟩
  | .hbm, ⟨52, _⟩ => ⟨S30, .f32⟩
  | .hbm, ⟨53, _⟩ => ⟨S30, .f32⟩
  | .hbm, ⟨54, _⟩ => ⟨S1x30, .f32⟩
  | .hbm, ⟨55, _⟩ => ⟨S_, .i32⟩
  | .hbm, ⟨56, _⟩ => ⟨S30, .i32⟩
  | .hbm, ⟨57, _⟩ => ⟨S30, .i1⟩
  | .hbm, ⟨58, _⟩ => ⟨S1x30, .i1⟩
  | .hbm, ⟨59, _⟩ => ⟨S2097152x30, .f32⟩
  | .hbm, ⟨60, _⟩ => ⟨S2097152x30, .f32⟩
  | .hbm, ⟨61, _⟩ => ⟨S2097152x30, .i1⟩
  | .hbm, ⟨62, _⟩ => ⟨S2097152x30, .f32⟩
  | .hbm, ⟨63, _⟩ => ⟨S2097152x30, .f32⟩
  | .hbm, ⟨64, _⟩ => ⟨S2097152x30, .i1⟩
  | .hbm, ⟨65, _⟩ => ⟨S2097152x30, .f32⟩
  | .hbm, ⟨66, _⟩ => ⟨S2097152x30, .f32⟩
  | .hbm, ⟨67, _⟩ => ⟨S2097152x30, .i1⟩
  | .hbm, ⟨68, _⟩ => ⟨S2097152x30, .i1⟩
  | .hbm, ⟨69, _⟩ => ⟨S2097152x30, .i1⟩
  | .hbm, ⟨70, _⟩ => ⟨S2097152x30, .i1⟩
  | .hbm, ⟨71, _⟩ => ⟨S2097152x30, .i1⟩
  | .hbm, ⟨72, _⟩ => ⟨S2097152x30, .f32⟩
  | .hbm, ⟨73, _⟩ => ⟨S_, .f32⟩
  | .hbm, ⟨74, _⟩ => ⟨S30, .f32⟩
  | .hbm, ⟨75, _⟩ => ⟨S2097152x30, .f32⟩
  | .hbm, ⟨76, _⟩ => ⟨S2097152x30, .f32⟩
  | .hbm, ⟨77, _⟩ => ⟨S2097152x30, .i1⟩
  | .hbm, ⟨78, _⟩ => ⟨S_, .f32⟩
  | .hbm, ⟨79, _⟩ => ⟨S1x30, .f32⟩
  | .hbm, ⟨80, _⟩ => ⟨S1x30, .f32⟩
  | .hbm, ⟨81, _⟩ => ⟨S1x30, .f32⟩
  | .hbm, ⟨82, _⟩ => ⟨S2097152x30, .f32⟩
  | .hbm, ⟨83, _⟩ => ⟨S2097152x30, .f32⟩
  | .hbm, ⟨84, _⟩ => ⟨S2097152x30, .i1⟩
  | .hbm, ⟨85, _⟩ => ⟨S2097152x30, .i1⟩
  | .hbm, ⟨86, _⟩ => ⟨S_, .f32⟩
  | .hbm, ⟨87, _⟩ => ⟨S30, .f32⟩
  | .hbm, ⟨88, _⟩ => ⟨S30, .f32⟩
  | .hbm, ⟨89, _⟩ => ⟨S1x30, .f32⟩
  | .hbm, ⟨90, _⟩ => ⟨S_, .f32⟩
  | .hbm, ⟨91, _⟩ => ⟨S_, .f32⟩
  | .hbm, ⟨92, _⟩ => ⟨S2097152x30, .f32⟩
  | .hbm, ⟨93, _⟩ => ⟨S2097152x30, .f32⟩
  | .hbm, ⟨94, _⟩ => ⟨S2097152x30, .f32⟩
  | .hbm, ⟨95, _⟩ => ⟨S_, .f32⟩
  | .hbm, ⟨96, _⟩ => ⟨S2097152, .f32⟩
  | .hbm, ⟨97, _⟩ => ⟨S_, .f32⟩
  | .hbm, ⟨98, _⟩ => ⟨S2097152, .f32⟩
  | .hbm, ⟨99, _⟩ => ⟨S_, .f32⟩
  | .hbm, ⟨100, _⟩ => ⟨S2097152, .f32⟩
  | .hbm, ⟨101, _⟩ => ⟨S2097152, .f32⟩
  | .hbm, ⟨102, _⟩ => ⟨S2097152x1, .f32⟩
  | .hbm, ⟨103, _⟩ => ⟨S2097152x19, .f32⟩
  | .hbm, ⟨104, _⟩ => ⟨S2097152x19, .f32⟩
  | .hbm, ⟨105, _⟩ => ⟨S2097152x19, .f32⟩
  | .hbm, ⟨106, _⟩ => ⟨S_, .f32⟩
  | .hbm, ⟨107, _⟩ => ⟨S2097152, .f32⟩
  | .hbm, ⟨108, _⟩ => ⟨S2097152x1, .f32⟩
  | .hbm, ⟨109, _⟩ => ⟨S2097152x1, .f32⟩
  | .hbm, ⟨110, _⟩ => ⟨S2097152x19, .f32⟩
  | .hbm, ⟨111, _⟩ => ⟨S2097152x19, .f32⟩
  | .hbm, ⟨112, _⟩ => ⟨S2097152x19, .f32⟩
  | .hbm, ⟨113, _⟩ => ⟨S_, .f32⟩
  | .hbm, ⟨114, _⟩ => ⟨S2097152, .f32⟩
  | .hbm, ⟨115, _⟩ => ⟨S2097152, .f32⟩
  | .hbm, ⟨116, _⟩ => ⟨S_, .f32⟩
  | .hbm, ⟨117, _⟩ => ⟨S_, .f32⟩
  | .hbm, ⟨118, _⟩ => ⟨S2097152, .f32⟩
  | .hbm, ⟨119, _⟩ => ⟨S2097152, .f32⟩
  | .hbm, ⟨120, _⟩ => ⟨S2097152, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v72 : Ref sig .tc := ⟨.hbm, 94, rfl⟩
abbrev main_cst_13 : Ref sig .tc := ⟨.hbm, 95, rfl⟩
abbrev main_v73 : Ref sig .tc := ⟨.hbm, 96, rfl⟩
abbrev main_call3_cst : Ref sig .tc := ⟨.hbm, 97, rfl⟩
abbrev main_call3_v0 : Ref sig .tc := ⟨.hbm, 98, rfl⟩
abbrev main_call3_cst_0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_cst_1 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_v74 : Ref sig .tc := ⟨.hbm, 111, rfl⟩
abbrev main_v75 : Ref sig .tc := ⟨.hbm, 112, rfl⟩
abbrev main_cst_14 : Ref sig .tc := ⟨.hbm, 113, rfl⟩
abbrev main_v76 : Ref sig .tc := ⟨.hbm, 114, rfl⟩
abbrev main_v77 : Ref sig .tc := ⟨.hbm, 115, rfl⟩
abbrev main_cst_15 : Ref sig .tc := ⟨.hbm, 116, rfl⟩
abbrev main_call4_v0 : Ref sig .tc := ⟨.hbm, 117, rfl⟩
abbrev main_call4_v1 : Ref sig .tc := ⟨.hbm, 118, rfl⟩
abbrev main_v78 : Ref sig .tc := ⟨.hbm, 119, rfl⟩
abbrev main_v79 : Ref sig .tc := ⟨.hbm, 120, rfl⟩
abbrev main_cst_16 : Ref sig .tc := ⟨.hbm, 121, rfl⟩
abbrev main_v80 : Ref sig .tc := ⟨.hbm, 122, rfl⟩
abbrev main_cst_17 : Ref sig .tc := ⟨.hbm, 123, rfl⟩
abbrev main_v81 : Ref sig .tc := ⟨.hbm, 124, rfl⟩
abbrev main_cst_18 : Ref sig .tc := ⟨.hbm, 125, rfl⟩
abbrev main_v82 : Ref sig .tc := ⟨.hbm, 126, rfl⟩
abbrev main_v83 : Ref sig .tc := ⟨.hbm, 127, rfl⟩

abbrev nD : Nat := 1
abbrev τ : Topo := Topo.v7x

variable {F : FTy → Type} [FloatOps F]
-- ==== Proof.KernelIdeal.Cases.lean ====
/-
The body's branches over the grid. The kernel walks 64 points: it clears the three running buffers at the first one
and writes the result at the last one. A third branch, the correction of the bin counts, depends on the data; nothing
decides it here, and the runs of the body keep it as a case distinction in what the third buffer holds.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Ghm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The branch that clears the running buffers, as the program spells its condition. -/
abbrev isFirst (i : grid0.Coords) : Prop :=
  (Scalar.cmpi .ne (Scalar.extui (Scalar.cmpi .eq (BitVec.ofNat 32 (i 0).val) 0#32)) 0#32) = 1#1

/-- The branch that writes the result. -/
abbrev isLast (i : grid0.Coords) : Prop := k0_cond3 i = 1#1

/-- The buffers are cleared at point 0 and nowhere else. -/
theorem isFirst_iff : ∀ t : Fin cfg0.N, isFirst (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    simp only [isFirst, e0]
    word_cmp
   : ∀ t : Fin grid0.N, isFirst (grid0.coords t) ↔ t.val = 0)

/-- The result is written at point 63 and nowhere else. -/
theorem isLast_iff : ∀ t : Fin cfg0.N, isLast (grid0.coords t) ↔ t.val = 63 :=
  (fun t => by
    have ht : t.val < 64 := Nat.lt_of_lt_of_eq t.isLt N_0
    have e0 : (grid0.coords t 0).val = t.val / 1 % 64 := Pipeline.Grid.coords_val t 0 (by decide) rfl
    simp only [isLast, k0_cond3, e0]
    word_cmp
   : ∀ t : Fin grid0.N, isLast (grid0.coords t) ↔ t.val = 63)

/-- The two input windows are live at every point. -/
theorem live0 : ∀ t : Fin cfg0.N, cfg0.idle 0 (grid0.coords t) = false := fun _ => rfl
theorem live1 : ∀ t : Fin cfg0.N, cfg0.idle 1 (grid0.coords t) = false := fun _ => rfl
/-- Before the last point the output window is idle, -/
theorem idle2 : ∀ t : Fin cfg0.N, ¬isLast (grid0.coords t) → cfg0.idle 2 (grid0.coords t) = true := by decide +kernel
/-- and its block is not written back; -/
theorem noFlush2 : ∀ t : Fin cfg0.N, ¬isLast (grid0.coords t) → (cfg0.win 2).flush t = false := by decide +kernel
/-- at the last point it is live. -/
theorem live2 : ∀ t : Fin cfg0.N, isLast (grid0.coords t) → cfg0.idle 2 (grid0.coords t) = false := by decide +kernel

/-- The staging buffers the body is called with at point `t`, each a whole buffer. -/
abbrev stg0 (t : Fin cfg0.N) : Memref sig .tc .vmem S1x19x64x512 .f32 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x64x512 .i32 := win0_1.stage (cfg0.slots t 1)
abbrev whole1 (t : Fin cfg0.N) : (stg1 t).IsWhole := hstage0_1 ((cfg0.slots t 1).cast nbuf0_1)
abbrev stg2 (t : Fin cfg0.N) : Memref sig .tc .vmem S8x128 .f32 := win0_2.stage (cfg0.slots t 2)
abbrev whole2 (t : Fin cfg0.N) : (stg2 t).IsWhole := hstage0_2 ((cfg0.slots t 2).cast nbuf0_2)
/-- The three running buffers: the sums of the cross entropies, the counts, the corrections of the counts. -/
abbrev accS : Memref sig .tc .vmem S240x512 .f32 := Memref.whole cc0_scratch0
abbrev accN : Memref sig .tc .vmem S240x512 .f32 := Memref.whole cc0_scratch1
abbrev accD : Memref sig .tc .vmem S32x512 .f32 := Memref.whole cc0_scratch2
/-- One staging buffer of the output, through which its contents are read back. -/
abbrev outV : View sig .tc .vmem S8x128 .f32 := (Memref.whole cc0_stg2_0 : Memref sig .tc .vmem S8x128 .f32).view

/-- What the launch hands the body: the running buffers at some contents, and the generator register. -/
theorem scratch_eq (c : Dev nD) :
    (Pipeline.ΦA spec0 c : sProp 𝕄)
      = iprop(iprop((∃ d, owns (c : Thread nD τ) accS fullShare d) ∗ (∃ d, owns (c : Thread nD τ) accN fullShare d)
          ∗ (∃ d, owns (c : Thread nD τ) accD fullShare d)) ∗ (∃ r, prngReg c r)) := by
  unfold Pipeline.ΦA; rw [scopedRest0_eq]; simp only [accS, accN, accD, owns_whole]; try rfl

/-- Stores made under a condition on top of others: one list of stores, chosen by the condition. -/
theorem dite_writes {κ : Kind} {sp : Space} {s : Shape} {e : EltTy} (v : View sig κ sp s e) {Val : EltTy → Type}
    (f : v.ty.shape.Idx → Val v.ty.elt) {C : Prop} [Decidable C] (L : C → List (View.Piece Val s e)) (L' : List (View.Piece Val s e)) :
    (if h : C then v.writes Val f (L h) else v.writes Val f L') = v.writes Val f (if h : C then L h else L') := by
  split <;> rfl

/-- The same where nothing was stored otherwise. -/
theorem dite_writes_nil {κ : Kind} {sp : Space} {s : Shape} {e : EltTy} (v : View sig κ sp s e) {Val : EltTy → Type}
    (f : v.ty.shape.Idx → Val v.ty.elt) {C : Prop} [Decidable C] (L : C → List (View.Piece Val s e)) :
    (if h : C then v.writes Val f (L h) else f) = v.writes Val f (if h : C then L h else []) := by
  split <;> rfl

end Cert.KernelIdeal.Ghm

end
-- ==== Proof.KernelIdeal.RunFirst.lean ====
/-
The body at the first point: the running buffers are cleared, then added to.
-/
module

public import proofs.«01_k».proof.Proof.KernelIdeal.Cases

@[expose] public section

set_option maxRecDepth 16384

noncomputable section

namespace Cert.KernelIdeal.Ghm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body at the first point. On whole staging buffers holding the blocks `x0` (predictions) and `x1` (targets), and running buffers
holding anything, it leaves the inputs and the output's buffer as they were and each running buffer with a list of stores
made, the last one first; the lists are what the run finds. -/
noncomputable def runFirst (c : Dev nD) (i : grid0.Coords)
    (arg1 : Memref sig .tc .vmem S1x19x64x512 .f32) (harg1 : arg1.IsWhole)
    (arg2 : Memref sig .tc .vmem S1x64x512 .i32) (harg2 : arg2.IsWhole)
    (arg3 : Memref sig .tc .vmem S8x128 .f32) (harg3 : arg3.IsWhole)
    (arg4 : Memref sig .tc .vmem S240x512 .f32) (harg4 : arg4.IsWhole)
    (arg5 : Memref sig .tc .vmem S240x512 .f32) (harg5 : arg5.IsWhole)
    (arg6 : Memref sig .tc .vmem S32x512 .f32) (harg6 : arg6.IsWhole)
    (h0 : isFirst i) (h2 : ¬isLast i)
    (x0 : Vec F S1x19x64x512 .f32) (x1 : Vec F S1x64x512 .i32) :
    Σ' (LS0 : List (View.Piece (Elt F) S240x512 .f32)), Σ' (LS1 : List (View.Piece (Elt F) S240x512 .f32)), { LS2 : List (View.Piece (Elt F) S32x512 .f32) //
      ∀ (xi2 : Vec F S8x128 .f32) (E : Set ℕ) (K : PUnit → sProp 𝕄),
        iprop(owns (c : Thread nD τ) arg1 fullShare x0
            ∗ owns (c : Thread nD τ) arg2 fullShare x1
            ∗ owns (c : Thread nD τ) arg3 fullShare xi2
            ∗ (∃ d, owns (c : Thread nD τ) arg4 fullShare d)
            ∗ (∃ d, owns (c : Thread nD τ) arg5 fullShare d)
            ∗ (∃ d, owns (c : Thread nD τ) arg6 fullShare d)
            ∗ (iprop(owns (c : Thread nD τ) arg1 fullShare x0
                ∗ owns (c : Thread nD τ) arg2 fullShare x1
                ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)
                ∗ (∃ f, arg6.view.loc (c : Thread nD τ) ↦[arg6.view.set]{fullShare} arg6.view.writes (Elt F) f LS2))
              -∗ K ⟨⟩))
          ⊢ wp frame (wpE (defs₀ (F := F)) Variants.none c none) E
            (cc0__ghm_kernel i arg1 harg1 arg2 harg2 arg3 harg3 arg4 harg4 arg5 harg5 arg6 harg6) K } := by
  refine ⟨?_, ?_, ?_, fun xi2 E K => ?run⟩
  case run =>
    simp only [cc0__ghm_kernel_eq_skeleton]; unfold cc0__ghm_kernel_skel
    simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact h0 | sl_exact h2)
    rw [dite_writes]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexists _; iexact HS2

end Cert.KernelIdeal.Ghm

end
-- ==== Proof.KernelIdeal.RunMid.lean ====
/-
The body at the points between the first and the last: the running buffers are added to.
-/
module

public import proofs.«01_k».proof.Proof.KernelIdeal.RunFirst

@[expose] public section

set_option maxRecDepth 16384

noncomputable section

namespace Cert.KernelIdeal.Ghm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body at a middle point, the running buffers holding `xs0`, `xs1`, `xs2`: it leaves the inputs and the output's buffer as they
were and each running buffer with a list of stores made. The third buffer is not covered by its stores, so it keeps its old contents
under them. -/
noncomputable def runMid (c : Dev nD) (i : grid0.Coords)
    (arg1 : Memref sig .tc .vmem S1x19x64x512 .f32) (harg1 : arg1.IsWhole)
    (arg2 : Memref sig .tc .vmem S1x64x512 .i32) (harg2 : arg2.IsWhole)
    (arg3 : Memref sig .tc .vmem S8x128 .f32) (harg3 : arg3.IsWhole)
    (arg4 : Memref sig .tc .vmem S240x512 .f32) (harg4 : arg4.IsWhole)
    (arg5 : Memref sig .tc .vmem S240x512 .f32) (harg5 : arg5.IsWhole)
    (arg6 : Memref sig .tc .vmem S32x512 .f32) (harg6 : arg6.IsWhole)
    (h0 : ¬isFirst i) (h2 : ¬isLast i)
    (x0 : Vec F S1x19x64x512 .f32) (x1 : Vec F S1x64x512 .i32) (xs0 xs1 : Vec F S240x512 .f32) (xs2 : Vec F S32x512 .f32) :
    Σ' (LS0 : List (View.Piece (Elt F) S240x512 .f32)), Σ' (LS1 : List (View.Piece (Elt F) S240x512 .f32)), { LS2 : List (View.Piece (Elt F) S32x512 .f32) //
      ∀ (xi2 : Vec F S8x128 .f32) (E : Set ℕ) (K : PUnit → sProp 𝕄),
        iprop(owns (c : Thread nD τ) arg1 fullShare x0
            ∗ owns (c : Thread nD τ) arg2 fullShare x1
            ∗ owns (c : Thread nD τ) arg3 fullShare xi2
            ∗ owns (c : Thread nD τ) arg4 fullShare xs0
            ∗ owns (c : Thread nD τ) arg5 fullShare xs1
            ∗ owns (c : Thread nD τ) arg6 fullShare xs2
            ∗ (iprop(owns (c : Thread nD τ) arg1 fullShare x0
                ∗ owns (c : Thread nD τ) arg2 fullShare x1
                ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)
                ∗ (arg6.view.loc (c : Thread nD τ) ↦[arg6.view.set]{fullShare} arg6.view.writes (Elt F) (harg6.unread xs2) LS2))
              -∗ K ⟨⟩))
          ⊢ wp frame (wpE (defs₀ (F := F)) Variants.none c none) E
            (cc0__ghm_kernel i arg1 harg1 arg2 harg2 arg3 harg3 arg4 harg4 arg5 harg5 arg6 harg6) K } := by
  refine ⟨?_, ?_, ?_, fun xi2 E K => ?run⟩
  case run =>
    simp only [cc0__ghm_kernel_eq_skeleton]; unfold cc0__ghm_kernel_skel
    simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hfs0; obtain rfl := harg5.eq_unread hfs1; obtain rfl := harg6.eq_unread hfs2
    sl_exec (disch := first | sl_exact h0 | sl_exact h2)
    rw [dite_writes_nil]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    isplitl [HS1]; · iexists _; iexact HS1
    iexact HS2

end Cert.KernelIdeal.Ghm

end
-- ==== Proof.KernelIdeal.RunLast.lean ====
/-
The body at the last point: the running buffers are added to, and the result is computed from them.
-/
module

public import proofs.«01_k».proof.Proof.KernelIdeal.RunMid

@[expose] public section

set_option maxRecDepth 16384

noncomputable section

namespace Cert.KernelIdeal.Ghm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 6000000 in
/-- The body at the last point, the running buffers holding `xs0`, `xs1`, `xs2`: as at a middle point, and the output's buffer, whatever it
held, has the result stored. -/
noncomputable def runLast (c : Dev nD) (i : grid0.Coords)
    (arg1 : Memref sig .tc .vmem S1x19x64x512 .f32) (harg1 : arg1.IsWhole)
    (arg2 : Memref sig .tc .vmem S1x64x512 .i32) (harg2 : arg2.IsWhole)
    (arg3 : Memref sig .tc .vmem S8x128 .f32) (harg3 : arg3.IsWhole)
    (arg4 : Memref sig .tc .vmem S240x512 .f32) (harg4 : arg4.IsWhole)
    (arg5 : Memref sig .tc .vmem S240x512 .f32) (harg5 : arg5.IsWhole)
    (arg6 : Memref sig .tc .vmem S32x512 .f32) (harg6 : arg6.IsWhole)
    (h0 : ¬isFirst i) (h2 : isLast i)
    (x0 : Vec F S1x19x64x512 .f32) (x1 : Vec F S1x64x512 .i32) (xs0 xs1 : Vec F S240x512 .f32) (xs2 : Vec F S32x512 .f32) :
    Σ' (L2 : List (View.Piece (Elt F) S8x128 .f32)), Σ' (LS0 : List (View.Piece (Elt F) S240x512 .f32)), Σ' (LS1 : List (View.Piece (Elt F) S240x512 .f32)), { LS2 : List (View.Piece (Elt F) S32x512 .f32) //
      ∀ (E : Set ℕ) (K : PUnit → sProp 𝕄),
        iprop(owns (c : Thread nD τ) arg1 fullShare x0
            ∗ owns (c : Thread nD τ) arg2 fullShare x1
            ∗ (∃ d, owns (c : Thread nD τ) arg3 fullShare d)
            ∗ owns (c : Thread nD τ) arg4 fullShare xs0
            ∗ owns (c : Thread nD τ) arg5 fullShare xs1
            ∗ owns (c : Thread nD τ) arg6 fullShare xs2
            ∗ (iprop(owns (c : Thread nD τ) arg1 fullShare x0
                ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)
                ∗ (arg6.view.loc (c : Thread nD τ) ↦[arg6.view.set]{fullShare} arg6.view.writes (Elt F) (harg6.unread xs2) LS2))
              -∗ K ⟨⟩))
          ⊢ wp frame (wpE (defs₀ (F := F)) Variants.none c none) E
            (cc0__ghm_kernel i arg1 harg1 arg2 harg2 arg3 harg3 arg4 harg4 arg5 harg5 arg6 harg6) K } := by
  refine ⟨?_, ?_, ?_, ?_, fun E K => ?run⟩
  case run =>
    simp only [cc0__ghm_kernel_eq_skeleton]; unfold cc0__ghm_kernel_skel
    simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg4.eq_unread hfs0; obtain rfl := harg5.eq_unread hfs1; obtain rfl := harg6.eq_unread hfs2
    sl_exec (disch := first | sl_exact h0 | sl_exact h2)
    rw [dite_writes_nil]
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    isplitl [HS1]; · iexists _; iexact HS1
    iexact HS2

end Cert.KernelIdeal.Ghm

end
-- ==== Proof.KernelIdeal.Frame.lean ====
/-
What the running buffers and the output hold after each point, the body's obligation at every point, and the run of the
whole program: it ends, its arguments unchanged, every semaphore back at zero.
-/
module

public import proofs.«01_k».proof.Proof.KernelIdeal.RunLast
public import Idealize.ShloMosaic.Lib.Claim

@[expose] public section

set_option maxRecDepth 16384

noncomputable section

namespace Cert.KernelIdeal.Ghm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three kinds of point, at the buffers the body is called with -/

/-- The run at the first point. -/
abbrev atFirst (c : Dev nD) (t : Fin cfg0.N) (h0 : isFirst (grid0.coords t)) (h2 : ¬isLast (grid0.coords t)) :=
  runFirst c (grid0.coords t) (stg0 t) (whole0 t) (stg1 t) (whole1 t) (stg2 t) (whole2 t) accS (Memref.isWhole_whole _)
    accN (Memref.isWhole_whole _) accD (Memref.isWhole_whole _) h0 h2 (iblk m c 0 t) (iblk m c 1 t)

/-- The run at a middle point. -/
abbrev atMid (c : Dev nD) (t : Fin cfg0.N) (h0 : ¬isFirst (grid0.coords t)) (h2 : ¬isLast (grid0.coords t))
    (s0 s1 : Vec F S240x512 .f32) (s2 : Vec F S32x512 .f32) :=
  runMid c (grid0.coords t) (stg0 t) (whole0 t) (stg1 t) (whole1 t) (stg2 t) (whole2 t) accS (Memref.isWhole_whole _)
    accN (Memref.isWhole_whole _) accD (Memref.isWhole_whole _) h0 h2 (iblk m c 0 t) (iblk m c 1 t) s0 s1 s2

/-- The run at the last point. -/
abbrev atLast (c : Dev nD) (t : Fin cfg0.N) (h0 : ¬isFirst (grid0.coords t)) (h2 : isLast (grid0.coords t))
    (s0 s1 : Vec F S240x512 .f32) (s2 : Vec F S32x512 .f32) :=
  runLast c (grid0.coords t) (stg0 t) (whole0 t) (stg1 t) (whole1 t) (stg2 t) (whole2 t) accS (Memref.isWhole_whole _)
    accN (Memref.isWhole_whole _) accD (Memref.isWhole_whole _) h0 h2 (iblk m c 0 t) (iblk m c 1 t) s0 s1 s2

/-- What the first point's stores leave in the sums' buffer, read over anything: -/
theorem cover_first_S (c : Dev nD) (t : Fin cfg0.N) (h0 h2) (y : S240x512.Idx) :
    ∃ p ∈ (atFirst (F := F) m c t h0 h2).1, y ∈ p.1.set :=
  View.cover_of_wholeMem (atFirst m c t h0 h2).1 (by sl_whole_mem) y
/-- they cover it, as they cover the counts' buffer -/
theorem cover_first_N (c : Dev nD) (t : Fin cfg0.N) (h0 h2) (y : S240x512.Idx) :
    ∃ p ∈ (atFirst (F := F) m c t h0 h2).2.1, y ∈ p.1.set :=
  View.cover_of_wholeMem (atFirst m c t h0 h2).2.1 (by sl_whole_mem) y
/-- and the corrections' buffer, whether or not the correction is made. -/
theorem cover_first_D (c : Dev nD) (t : Fin cfg0.N) (h0 h2) (y : S32x512.Idx) :
    ∃ p ∈ (atFirst (F := F) m c t h0 h2).2.2.1, y ∈ p.1.set := by
  have key : ∀ {C : Prop} [Decidable C] (L : C → List (View.Piece (Elt F) S32x512 .f32)) (L' : List (View.Piece (Elt F) S32x512 .f32)),
      (∀ h, ∃ p ∈ L h, y ∈ p.1.set) → (∃ p ∈ L', y ∈ p.1.set) → ∃ p ∈ (if h : C then L h else L'), y ∈ p.1.set := by
    intro C _ L L' hL hL'
    split
    · exact hL _
    · exact hL'
  refine key _ _ (fun h => ?_) ?_
  · exact View.cover_of_wholeMem _ (by sl_whole_mem) y
  · exact View.cover_of_wholeMem _ (by sl_whole_mem) y

/-- At a middle point the thirty stores of eight rows tile the sums' buffer -/
theorem cover_mid_S (c : Dev nD) (t : Fin cfg0.N) (h0 h2) (s0 s1 s2) (y : S240x512.Idx) :
    ∃ p ∈ (atMid (F := F) m c t h0 h2 s0 s1 s2).1, y ∈ p.1.set :=
  View.cover_of_tiledL (atMid m c t h0 h2 s0 s1 s2).1 S8x512.size (by sl_kernel_rfl) y
/-- and the counts' buffer; -/
theorem cover_mid_N (c : Dev nD) (t : Fin cfg0.N) (h0 h2) (s0 s1 s2) (y : S240x512.Idx) :
    ∃ p ∈ (atMid (F := F) m c t h0 h2 s0 s1 s2).2.1, y ∈ p.1.set :=
  View.cover_of_tiledL (atMid m c t h0 h2 s0 s1 s2).2.1 S8x512.size (by sl_kernel_rfl) y
/-- so they do at the last point, -/
theorem cover_last_S (c : Dev nD) (t : Fin cfg0.N) (h0 h2) (s0 s1 s2) (y : S240x512.Idx) :
    ∃ p ∈ (atLast (F := F) m c t h0 h2 s0 s1 s2).2.1, y ∈ p.1.set :=
  View.cover_of_tiledL (atLast m c t h0 h2 s0 s1 s2).2.1 S8x512.size (by sl_kernel_rfl) y
/-- for both buffers, -/
theorem cover_last_N (c : Dev nD) (t : Fin cfg0.N) (h0 h2) (s0 s1 s2) (y : S240x512.Idx) :
    ∃ p ∈ (atLast (F := F) m c t h0 h2 s0 s1 s2).2.2.1, y ∈ p.1.set :=
  View.cover_of_tiledL (atLast m c t h0 h2 s0 s1 s2).2.2.1 S8x512.size (by sl_kernel_rfl) y
/-- where one store covers the output's buffer. -/
theorem cover_last_O (c : Dev nD) (t : Fin cfg0.N) (h0 h2) (s0 s1 s2) (y : S8x128.Idx) :
    ∃ p ∈ (atLast (F := F) m c t h0 h2 s0 s1 s2).1, y ∈ p.1.set :=
  View.cover_of_tiledL (atLast m c t h0 h2 s0 s1 s2).1 S8x128.size (by sl_kernel_rfl) y

/-! ## The running buffers after each point -/

/-- The three running buffers' contents. -/
abbrev Carry (F : FTy → Type) : Type := Vec F S240x512 .f32 × Vec F S240x512 .f32 × Vec F S32x512 .f32

/-- What the first point leaves in them. -/
def afterFirst (c : Dev nD) (t : Fin cfg0.N) (h0 : isFirst (grid0.coords t)) (h2 : ¬isLast (grid0.coords t)) : Carry F :=
  (accS.view.read (Elt F) (accS.view.writes (Elt F) accS.view.junk (atFirst m c t h0 h2).1),
   accN.view.read (Elt F) (accN.view.writes (Elt F) accN.view.junk (atFirst m c t h0 h2).2.1),
   accD.view.read (Elt F) (accD.view.writes (Elt F) accD.view.junk (atFirst m c t h0 h2).2.2.1))

/-- What a middle point leaves, from what they held. -/
def afterMid (c : Dev nD) (t : Fin cfg0.N) (h0 : ¬isFirst (grid0.coords t)) (h2 : ¬isLast (grid0.coords t)) (s : Carry F) : Carry F :=
  (accS.view.read (Elt F) (accS.view.writes (Elt F) accS.view.junk (atMid m c t h0 h2 s.1 s.2.1 s.2.2).1),
   accN.view.read (Elt F) (accN.view.writes (Elt F) accN.view.junk (atMid m c t h0 h2 s.1 s.2.1 s.2.2).2.1),
   accD.view.read (Elt F) (accD.view.writes (Elt F) ((Memref.isWhole_whole cc0_scratch2).unread s.2.2) (atMid m c t h0 h2 s.1 s.2.1 s.2.2).2.2.1))

/-- What the last point leaves, from what they held, -/
def afterLast (c : Dev nD) (t : Fin cfg0.N) (h0 : ¬isFirst (grid0.coords t)) (h2 : isLast (grid0.coords t)) (s : Carry F) : Carry F :=
  (accS.view.read (Elt F) (accS.view.writes (Elt F) accS.view.junk (atLast m c t h0 h2 s.1 s.2.1 s.2.2).2.1),
   accN.view.read (Elt F) (accN.view.writes (Elt F) accN.view.junk (atLast m c t h0 h2 s.1 s.2.1 s.2.2).2.2.1),
   accD.view.read (Elt F) (accD.view.writes (Elt F) ((Memref.isWhole_whole cc0_scratch2).unread s.2.2) (atLast m c t h0 h2 s.1 s.2.1 s.2.2).2.2.2.1))

/-- and the result it writes. -/
def result (c : Dev nD) (t : Fin cfg0.N) (h0 : ¬isFirst (grid0.coords t)) (h2 : isLast (grid0.coords t)) (s : Carry F) : Vec F S8x128 .f32 :=
  outV.read (Elt F) (outV.writes (Elt F) outV.junk (atLast m c t h0 h2 s.1 s.2.1 s.2.2).1)

/-- The running buffers after point `n`. -/
def carry (c : Dev nD) : (n : ℕ) → n < cfg0.N → Carry F
  | 0, hn => afterFirst m c ⟨0, hn⟩ ((isFirst_iff ⟨0, hn⟩).mpr rfl) (fun h => absurd ((isLast_iff ⟨0, hn⟩).mp h) (show ¬(0 = 63) by decide))
  | n + 1, hn =>
    if h2 : isLast (grid0.coords ⟨n + 1, hn⟩) then
      afterLast m c ⟨n + 1, hn⟩ (fun h => absurd ((isFirst_iff ⟨n + 1, hn⟩).mp h) (Nat.succ_ne_zero n)) h2 (carry c n (Nat.lt_of_succ_lt hn))
    else
      afterMid m c ⟨n + 1, hn⟩ (fun h => absurd ((isFirst_iff ⟨n + 1, hn⟩).mp h) (Nat.succ_ne_zero n)) h2 (carry c n (Nat.lt_of_succ_lt hn))

/-- The running buffers as point `t` finds them, past the first. -/
abbrev before (c : Dev nD) (t : Fin cfg0.N) : Carry F := carry m c (t.val - 1) (Nat.lt_of_le_of_lt (Nat.sub_le _ _) t.isLt)

theorem carry_first (c : Dev nD) (t : Fin cfg0.N) (h0 : isFirst (grid0.coords t)) (h2 : ¬isLast (grid0.coords t)) :
    carry m c t.val t.isLt = afterFirst m c t h0 h2 := by
  obtain ⟨n, hn⟩ := t
  cases n with
  | zero => rfl
  | succ n => exact absurd ((isFirst_iff _).mp h0) (Nat.succ_ne_zero n)

theorem carry_mid (c : Dev nD) (t : Fin cfg0.N) (h0 : ¬isFirst (grid0.coords t)) (h2 : ¬isLast (grid0.coords t)) :
    carry m c t.val t.isLt = afterMid m c t h0 h2 (before m c t) := by
  obtain ⟨n, hn⟩ := t
  cases n with
  | zero => exact absurd ((isFirst_iff _).mpr rfl) h0
  | succ n => exact dif_neg h2

theorem carry_last (c : Dev nD) (t : Fin cfg0.N) (h0 : ¬isFirst (grid0.coords t)) (h2 : isLast (grid0.coords t)) :
    carry m c t.val t.isLt = afterLast m c t h0 h2 (before m c t) := by
  obtain ⟨n, hn⟩ := t
  cases n with
  | zero => exact absurd ((isFirst_iff _).mpr rfl) h0
  | succ n => exact dif_pos h2

/-- What the output's buffer holds after point `t`: the result at the last point; before it nothing reads the entry. -/
def outAt (c : Dev nD) (t : Fin cfg0.N) : Vec F S8x128 .f32 :=
  if h : ¬isFirst (grid0.coords t) ∧ isLast (grid0.coords t) then result m c t h.1 h.2 (before m c t)
  else outV.read (Elt F) outV.junk

theorem outAt_last (c : Dev nD) (t : Fin cfg0.N) (h0 : ¬isFirst (grid0.coords t)) (h2 : isLast (grid0.coords t)) :
    outAt m c t = result m c t h0 h2 (before m c t) := dif_pos ⟨h0, h2⟩

/-! ## The invariant and the proof data -/

/-- The running buffers held at `s`, and the generator register. -/
abbrev holds (c : Dev nD) (s : Carry F) : sProp 𝕄 :=
  iprop(iprop(owns (c : Thread nD τ) accS fullShare s.1 ∗ owns (c : Thread nD τ) accN fullShare s.2.1
    ∗ owns (c : Thread nD τ) accD fullShare s.2.2) ∗ (∃ r, prngReg c r))

/-- What is kept between points: before the first, the running buffers at anything; then, at what the point before left. -/
def kept (c : Dev nD) : (n : ℕ) → n ≤ cfg0.N → sProp 𝕄
  | 0, _ => Pipeline.ΦA spec0 c
  | n + 1, hn => holds c (carry m c n hn)

theorem kept_zero (c : Dev nD) (n : ℕ) (h : n ≤ cfg0.N) (hz : n = 0) : kept m c n h = Pipeline.ΦA spec0 c := by
  subst hz; rfl

theorem kept_pos (c : Dev nD) (n : ℕ) (h : n ≤ cfg0.N) (hz : n ≠ 0) :
    kept m c n h = holds c (carry m c (n - 1) (by omega)) := by
  cases n with
  | zero => exact absurd rfl hz
  | succ n => rfl

/-- The proof data of the pipeline: the arrays as launched, each input's block left in place, the output at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := kept m c t.val (Nat.le_of_lt_succ t.isLt)
  q _ := fullShare
  owed _ := 0

theorem A_eq (c : Dev nD) (w : Fin cfg0.W) : (dats m 0 c).A w = V m c (Pipeline.arrRef spec0 w) := by
  dsimp only [dats]

theorem kept_castSucc (c : Dev nD) (t : Fin cfg0.N) :
    (dats m 0 c).Φ t.castSucc = kept m c t.val (Nat.le_of_lt t.isLt) := by
  dsimp only [dats]; exact Pipeline.Dat.Φ_castSucc (kept m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- A buffer with stores made that cover it, read back, is the stores read over anything. -/
theorem owns_of_cover (c : Dev nD) {sp : Space} {s : Shape} {e : EltTy} (M : Memref sig .tc sp s e) (N : View sig .tc sp s e)
    (g : N.ty.Contents (Elt F)) (L : List (View.Piece (Elt F) s e)) (hL : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (N.read (Elt F) (N.writes (Elt F) g L)) := by
  unfold owns
  iintro ⟨%f, H⟩
  iexists _; isplitr
  swap; · iexact H
  ipureintro; exact View.read_writes_of_cover _ _ _ _ _ hL

/-- A buffer with stores made, read back. -/
theorem owns_of_writes (c : Dev nD) {sp : Space} {s : Shape} {e : EltTy} (M : Memref sig .tc sp s e)
    (g : M.view.ty.Contents (Elt F)) :
    (iprop(M.view.loc (c : Thread nD τ) ↦[M.view.set]{fullShare} g) : sProp 𝕄)
      ⊢ owns (c : Thread nD τ) M fullShare (M.view.read (Elt F) g) := by
  unfold owns
  iintro H
  iexists _; isplitr
  swap; · iexact H
  ipureintro; rfl

set_option maxHeartbeats 1600000 in
/-- The body at any point, by the three kinds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl,
    show (dats m 0 c).Φ t.succ = holds c (carry m c t.val t.isLt) from rfl,
    show (dats m 0 c).leavesExact 0 t = owns (c : Thread nD τ) (stg0 t) fullShare ((dats m 0 c).after 0 t) from by
      unfold Dat.leavesExact; rw [live0 t],
    show (dats m 0 c).leavesExact 1 t = owns (c : Thread nD τ) (stg1 t) fullShare ((dats m 0 c).after 1 t) from by
      unfold Dat.leavesExact; rw [live1 t], after_0, after_1, kept_castSucc]
  by_cases h0 : isFirst (grid0.coords t)
  · have hz : t.val = 0 := (isFirst_iff t).mp h0
    have h2 : ¬isLast (grid0.coords t) := fun h => by have := (isLast_iff t).mp h; omega
    rw [Dat.leavesExact_idle (dats m 0 c) 2 t (idle2 t h2) (noFlush2 t h2), kept_zero m c _ _ hz, scratch_eq,
      carry_first m c t h0 h2]
    unfold afterFirst holds; dsimp only
    iintro ⟨⟨⟨HS0, HS1, HS2⟩, Hg⟩, Ho, ⟨%d0, H0⟩, ⟨%d1, H1⟩, ⟨%d2, H2⟩⟩
    iapply ((atFirst m c t h0 h2).2.2.2 _ Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1 HS2]
      · isplitl [HS0]
        · iapply (owns_of_cover c accS accS.view _ _ (cover_first_S m c t h0 h2)); iexact HS0
        isplitl [HS1]
        · iapply (owns_of_cover c accN accN.view _ _ (cover_first_N m c t h0 h2)); iexact HS1
        iapply (owns_of_cover c accD accD.view _ _ (cover_first_D m c t h0 h2)); iexact HS2
      iexact Hg
    isplitl [Ho]; · iexact Ho
    isplitl [H0]; · iexact H0
    isplitl [H1]; · iexact H1
    iexists _; iexact H2
  · have hz : t.val ≠ 0 := fun h => h0 ((isFirst_iff t).mpr h)
    rw [kept_pos m c _ _ hz]
    by_cases h2 : isLast (grid0.coords t)
    · rw [show (dats m 0 c).leavesExact 2 t = owns (c : Thread nD τ) (stg2 t) fullShare ((dats m 0 c).after 2 t) from by
          unfold Dat.leavesExact; rw [live2 t h2], after_2, outAt_last m c t h0 h2, carry_last m c t h0 h2]
      unfold afterLast result holds; dsimp only
      iintro ⟨⟨⟨HS0, HS1, HS2⟩, Hg⟩, Ho, ⟨%d0, H0⟩, ⟨%d1, H1⟩, ⟨%d2, H2⟩⟩
      iapply ((atLast m c t h0 h2 _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]
          · iapply (owns_of_cover c accS accS.view _ _ (cover_last_S m c t h0 h2 _ _ _)); iexact HS0
          isplitl [HS1]
          · iapply (owns_of_cover c accN accN.view _ _ (cover_last_N m c t h0 h2 _ _ _)); iexact HS1
          iapply (owns_of_writes c accD); iexact HS2
        iexact Hg
      isplitl [Ho]; · iexact Ho
      isplitl [H0]; · iexact H0
      isplitl [H1]; · iexact H1
      iapply (owns_of_cover c (stg2 t) outV _ _ (cover_last_O m c t h0 h2 _ _ _)); iexact H2
    · rw [Dat.leavesExact_idle (dats m 0 c) 2 t (idle2 t h2) (noFlush2 t h2), carry_mid m c t h0 h2]
      unfold afterMid holds; dsimp only
      iintro ⟨⟨⟨HS0, HS1, HS2⟩, Hg⟩, Ho, ⟨%d0, H0⟩, ⟨%d1, H1⟩, ⟨%d2, H2⟩⟩
      iapply ((atMid m c t h0 h2 _ _ _).2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]
          · iapply (owns_of_cover c accS accS.view _ _ (cover_mid_S m c t h0 h2 _ _ _)); iexact HS0
          isplitl [HS1]
          · iapply (owns_of_cover c accN accN.view _ _ (cover_mid_N m c t h0 h2 _ _ _)); iexact HS1
          iapply (owns_of_writes c accD); iexact HS2
        iexact Hg
      isplitl [Ho]; · iexact Ho
      isplitl [H0]; · iexact H0
      isplitl [H1]; · iexact H1
      iexists _; iexact H2

/-- The body table's entry at point `t` is the body. -/
theorem body_row (t : Fin cfg0.N) :
    defs₀ (F := F) .tc cfg0.body (cfg0.bodyArgs t (cfg0.slots t)) = bodyAt0 t := by
  unfold defs₀; rw [Defs.onTc_tc]

/-- The body's obligation. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands the body is what is kept before the first point. -/
theorem kept_in (c : Dev nD) : Pipeline.ΦA spec0 c ⊢ (dats m 0 c).Φ 0 := by
  rw [show (dats m 0 c).Φ 0 = kept m c 0 (Nat.zero_le _) from rfl, kept_zero m c 0 _ rfl]

/-- After any point the launch can take the running buffers back, -/
theorem kept_forget (c : Dev nD) (t : Fin (cfg0.N + 1)) (ht : t.val ≠ 0) : (dats m 0 c).Φ t ⊢ Pipeline.ΦA spec0 c := by
  rw [show (dats m 0 c).Φ t = kept m c t.val (Nat.le_of_lt_succ t.isLt) from rfl, kept_pos m c _ _ ht, scratch_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- as it does after the last. -/
theorem kept_out (c : Dev nD) : (dats m 0 c).Φ (Fin.last cfg0.N) ⊢ Pipeline.ΦA spec0 c :=
  kept_forget m c _ (by rw [Fin.val_last]; have : cfg0.N = 64 := N_0; omega)

/-! ## The run -/

set_option backward.isDefEq.respectTransparency.types false in
set_option maxHeartbeats 800000 in
/-- Every run of the program ends, with the arrays at what the proof data says, the later host operations' buffers at what
they compute, and every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := kept_in m) (hout := kept_out m)

/-- The same without the semaphores. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Ghm

end
-- ==== Proof.Pixel.lean ====
/-
A pixel of the loss, as the kernel computes it on the extended reals: from the nineteen predictions and the target, the cross
entropy, the gradient, and the two bins the gradient falls in.
-/
module

public import Idealize.ShloMosaic.Lib.Pointwise

@[expose] public section

set_option maxRecDepth 16384

noncomputable section

namespace Cert.Ghm

open Idealize.ShloMosaic

/-- The largest prediction, taken class after class. -/
def mxE (p : Fin 19 → EReal) : EReal :=
  max (max (max (max (max (max (max (max (max (max (max (max (max (max (max (max (max (max (p ⟨0, by decide⟩) (p ⟨1,
    by decide⟩)) (p ⟨2, by decide⟩)) (p ⟨3, by decide⟩)) (p ⟨4, by decide⟩)) (p ⟨5, by decide⟩)) (p ⟨6, by decide⟩))
    (p ⟨7, by decide⟩)) (p ⟨8, by decide⟩)) (p ⟨9, by decide⟩)) (p ⟨10, by decide⟩)) (p ⟨11, by decide⟩)) (p ⟨12, by
    decide⟩)) (p ⟨13, by decide⟩)) (p ⟨14, by decide⟩)) (p ⟨15, by decide⟩)) (p ⟨16, by decide⟩)) (p ⟨17, by decide⟩))
    (p ⟨18, by decide⟩)

/-- The sum of the shifted exponentials, class after class. -/
def dnE (p : Fin 19 → EReal) : EReal :=
  Ideal.exp (p ⟨0, by decide⟩ - mxE p) + Ideal.exp (p ⟨1, by decide⟩ - mxE p) + Ideal.exp (p ⟨2, by decide⟩ - mxE p) +
    Ideal.exp (p ⟨3, by decide⟩ - mxE p) + Ideal.exp (p ⟨4, by decide⟩ - mxE p) + Ideal.exp (p ⟨5, by decide⟩ - mxE p)
    + Ideal.exp (p ⟨6, by decide⟩ - mxE p) + Ideal.exp (p ⟨7, by decide⟩ - mxE p) + Ideal.exp (p ⟨8, by decide⟩ - mxE
    p) + Ideal.exp (p ⟨9, by decide⟩ - mxE p) + Ideal.exp (p ⟨10, by decide⟩ - mxE p) + Ideal.exp (p ⟨11, by decide⟩ -
    mxE p) + Ideal.exp (p ⟨12, by decide⟩ - mxE p) + Ideal.exp (p ⟨13, by decide⟩ - mxE p) + Ideal.exp (p ⟨14, by
    decide⟩ - mxE p) + Ideal.exp (p ⟨15, by decide⟩ - mxE p) + Ideal.exp (p ⟨16, by decide⟩ - mxE p) + Ideal.exp (p
    ⟨17, by decide⟩ - mxE p) + Ideal.exp (p ⟨18, by decide⟩ - mxE p)

/-- The prediction of the target's class: the predictions of the classes, all but the target's zeroed, added up. -/
def ptE (p : Fin 19 → EReal) (t : BitVec 32) : EReal :=
  Scalar.select (IntOp.cmpi .eq t 0#32) (p ⟨0, by decide⟩) 0 + Scalar.select (IntOp.cmpi .eq t 1#32) (p ⟨1, by
    decide⟩) 0 + Scalar.select (IntOp.cmpi .eq t 2#32) (p ⟨2, by decide⟩) 0 + Scalar.select (IntOp.cmpi .eq t 3#32) (p
    ⟨3, by decide⟩) 0 + Scalar.select (IntOp.cmpi .eq t 4#32) (p ⟨4, by decide⟩) 0 + Scalar.select (IntOp.cmpi .eq t
    5#32) (p ⟨5, by decide⟩) 0 + Scalar.select (IntOp.cmpi .eq t 6#32) (p ⟨6, by decide⟩) 0 + Scalar.select
    (IntOp.cmpi .eq t 7#32) (p ⟨7, by decide⟩) 0 + Scalar.select (IntOp.cmpi .eq t 8#32) (p ⟨8, by decide⟩) 0 +
    Scalar.select (IntOp.cmpi .eq t 9#32) (p ⟨9, by decide⟩) 0 + Scalar.select (IntOp.cmpi .eq t 10#32) (p ⟨10, by
    decide⟩) 0 + Scalar.select (IntOp.cmpi .eq t 11#32) (p ⟨11, by decide⟩) 0 + Scalar.select (IntOp.cmpi .eq t 12#32)
    (p ⟨12, by decide⟩) 0 + Scalar.select (IntOp.cmpi .eq t 13#32) (p ⟨13, by decide⟩) 0 + Scalar.select (IntOp.cmpi
    .eq t 14#32) (p ⟨14, by decide⟩) 0 + Scalar.select (IntOp.cmpi .eq t 15#32) (p ⟨15, by decide⟩) 0 + Scalar.select
    (IntOp.cmpi .eq t 16#32) (p ⟨16, by decide⟩) 0 + Scalar.select (IntOp.cmpi .eq t 17#32) (p ⟨17, by decide⟩) 0 +
    Scalar.select (IntOp.cmpi .eq t 18#32) (p ⟨18, by decide⟩) 0

/-- The cross entropy. -/
def ceE (p : Fin 19 → EReal) (t : BitVec 32) : EReal := Ideal.log (dnE p) - (ptE p t - mxE p)

/-- The gradient: the distance of the class's probability from one. -/
def grE (p : Fin 19 → EReal) (t : BitVec 32) : EReal :=
  FloatOps.absf (F := Ideal) (φ := .f32) (Ideal.div (Ideal.exp (ptE p t - mxE p)) (dnE p) - 1)

/-- The bin a gradient's thirtyfold rounds down to, kept between the first and the last. -/
def kcE (g : EReal) : EReal :=
  min (Ideal.ofBits .f32 1105723392#32) (max 0 (Ideal.liftRound Int.floor (g * Ideal.ofBits .f32 1106247680#32)))

/-- The bin a gradient is weighted in, its upper edge included. -/
def wbE (g : EReal) : EReal :=
  kcE g - FloatOps.sitofp (F := Ideal) .f32 (BitVec.setWidth 32 (BitVec.ofBool (decide (g ≤ Ideal.div (kcE g) (Ideal.ofBits .f32 1106247680#32)))))
    + FloatOps.sitofp (F := Ideal) .f32 (BitVec.setWidth 32 (BitVec.ofBool (decide (Ideal.div (kcE g + 1) (Ideal.ofBits .f32 1106247680#32) < g))))

/-- The bin a gradient is counted in, its lower edge included. -/
def hbE (g : EReal) : EReal :=
  min (kcE g - FloatOps.sitofp (F := Ideal) .f32 (BitVec.setWidth 32 (BitVec.ofBool (decide (g < kcE g * Ideal.div 1 (Ideal.ofBits .f32 1106247680#32)))))
      + FloatOps.sitofp (F := Ideal) .f32 (BitVec.setWidth 32 (BitVec.ofBool (decide ((kcE g + 1) * Ideal.div 1 (Ideal.ofBits .f32 1106247680#32) ≤ g)))))
    (Ideal.ofBits .f32 1105723392#32)

end Cert.Ghm

end
-- ==== Proof.KernelIdeal.Words.lean ====
/-
The body's words at a row and a lane of a window: the cross entropy and the two bins of the pixel there.
-/
module

public import proofs.«01_k».proof.Proof.KernelIdeal.Frame
public import proofs.«01_k».proof.Proof.Pixel
public import Idealize.ShloMosaic.Lib.Pointwise
public import Idealize.ShloMosaic.Lib.Pipeline.ValueKit

@[expose] public section

set_option maxRecDepth 16384

noncomputable section

namespace Cert.KernelIdeal.Ghm

open Idealize.ShloMosaic Idealize.ShloMosaic.TcCoe
open Idealize.SL.Sem
open Idealize.ShloMosaic.Pipeline (Dat)
open Cert.KernelIdeal Cert.KernelIdeal.Gen

/-- A load from a whole buffer holding `x` reads `x` at the rectangle's positions. -/
theorem load_at {sig : RefSig} {κ : Kind} {sp : Space} {s : Shape} {e : EltTy} (M : Memref sig κ sp s e)
    (h : M.IsWhole) (x : Vec Ideal s e) (r : Rect s) (j : r.shape.Idx) :
    View.readAt (Elt Ideal) M.view r.toLoadRect (h.unread x) j = x (r.emb j) := by
  rw [View.readAt_rect]
  exact congrFun (h.read_unread x) (r.emb j)

/-- One class's slab of the first window, at a row and a lane. -/
theorem slab_at (M : Memref sig .tc .vmem S1x19x64x512 .f32) (h : M.IsWhole) (x : Vec Ideal S1x19x64x512 .f32) (k : ℕ)
    (inb : ∀ a, (![0, k, 0, 0] : Fin 4 → ℕ) a + (![1, 1, 64, 512] : Fin 4 → ℕ) a ≤ S1x19x64x512.size a) (r : Fin 64) (l : Fin 512) :
    View.readAt (Elt Ideal) M.view (Rect.unit (s := S1x19x64x512) ![0, k, 0, 0] ![1, 1, 64, 512] inb).toLoadRect (h.unread x) (ix4 0 0 r l)
      = x (ix4 0 (⟨k, by have := inb 1; simp at this; omega⟩ : Fin 19) r l) := by
  rw [load_at]
  refine congrArg x (funext fun a => Fin.ext ?_)
  fin_cases a <;> simp [Rect.emb, Rect.unit, ix4]

/-- The second window's only slab, at a row and a lane. -/
theorem targets_at (M : Memref sig .tc .vmem S1x64x512 .i32) (h : M.IsWhole) (x : Vec Ideal S1x64x512 .i32)
    (inb : ∀ a, (![0, 0, 0] : Fin 3 → ℕ) a + (![1, 64, 512] : Fin 3 → ℕ) a ≤ S1x64x512.size a) (r : Fin 64) (l : Fin 512) :
    View.readAt (Elt Ideal) M.view (Rect.unit (s := S1x64x512) ![0, 0, 0] ![1, 64, 512] inb).toLoadRect (h.unread x) (ix3 0 r l)
      = x (ix3 0 r l) := by
  rw [load_at]
  refine congrArg x (funext fun a => Fin.ext ?_)
  fin_cases a <;> simp [Rect.emb, Rect.unit, ix3]

/-- The predictions of the pixel at a row and a lane of a window. -/
def pix (x0 : Vec Ideal S1x19x64x512 .f32) (r : Fin 64) (l : Fin 512) : Fin 19 → EReal := fun k => x0 (ix4 0 k r l)

/-- A window's cross entropies. -/
def ceB (x0 : Vec Ideal S1x19x64x512 .f32) (x1 : Vec Ideal S1x64x512 .i32) : FVec Ideal S64x512 .f32 :=
  fun j => Cert.Ghm.ceE (pix x0 (j 0) (j 1)) (x1 (ix3 0 (j 0) (j 1)))

/-- A window's gradients. -/
def grB (x0 : Vec Ideal S1x19x64x512 .f32) (x1 : Vec Ideal S1x64x512 .i32) : FVec Ideal S64x512 .f32 :=
  fun j => Cert.Ghm.grE (pix x0 (j 0) (j 1)) (x1 (ix3 0 (j 0) (j 1)))

/-- A window's weighting bins. -/
def wbB (x0 : Vec Ideal S1x19x64x512 .f32) (x1 : Vec Ideal S1x64x512 .i32) : FVec Ideal S64x512 .f32 :=
  fun j => Cert.Ghm.wbE (grB x0 x1 j)

/-- A window's counting bins. -/
def hbB (x0 : Vec Ideal S1x19x64x512 .f32) (x1 : Vec Ideal S1x64x512 .i32) : FVec Ideal S64x512 .f32 :=
  fun j => Cert.Ghm.hbE (grB x0 x1 j)

/-- A vector over a window's rows and lanes, known at each of them, is known. -/
theorem ext2 {A : Shape.Idx S64x512 → EReal} {B : Shape.Idx S64x512 → EReal}
    (h : ∀ (r : Fin 64) (l : Fin 512), A (ix2 r l) = B (ix2 r l)) : A = B := by
  funext j
  have e : j = ix2 (j 0) (j 1) := by funext a; fin_cases a <;> rfl
  rw [e]
  exact h _ _

/-- The clipped bin, from the gradient the word before it computed. -/
theorem kc_step (v6 : IVec S64x512 32) (v60 v226 v228 v231 : FVec Ideal S64x512 .f32) (v233 : IVec S64x512 1)
    (v237 : Vec Ideal S1x1x64x512 .f32) (r : Fin 64) (l : Fin 512) :
    k0_pay223 v6 v60 v226 v228 v231 v233 v237 (ix2 r l)
      = Cert.Ghm.kcE (k0_pay222 v6 v60 v226 v228 v231 v233 v237 (ix2 r l)) := by
  unfold Cert.Ghm.kcE
  pointwise [k0_pay223]

/-- The weighting bin, from that gradient. -/
theorem wb_step (v6 : IVec S64x512 32) (v60 v226 v228 v231 : FVec Ideal S64x512 .f32) (v233 : IVec S64x512 1)
    (v237 : Vec Ideal S1x1x64x512 .f32) (r : Fin 64) (l : Fin 512) :
    k0_pay224 v6 v60 v226 v228 v231 v233 v237 (ix2 r l)
      = Cert.Ghm.wbE (k0_pay222 v6 v60 v226 v228 v231 v233 v237 (ix2 r l)) := by
  unfold Cert.Ghm.wbE
  rw [← kc_step]
  pointwise [k0_pay224]

/-- The counting bin, from that gradient and its clipped bin. -/
theorem hb_step (g k : FVec Ideal S64x512 .f32) (h : ∀ (r : Fin 64) (l : Fin 512), k (ix2 r l) = Cert.Ghm.kcE (g (ix2 r l)))
    (r : Fin 64) (l : Fin 512) : k0_pay227 g k k0_pay225 k0_pay226 (ix2 r l) = Cert.Ghm.hbE (g (ix2 r l)) := by
  unfold Cert.Ghm.hbE
  rw [← h r l]
  pointwise [k0_pay227, k0_pay225, k0_pay226]

/-- The first kind of point computes each pixel's largest prediction, -/
theorem first_mx (c : Dev nD) {a1} (h1 : Memref.IsWhole a1) (x0 : Vec Ideal S1x19x64x512 .f32) (r : Fin 64) (l : Fin 512) :
    runFirst.sl.r_4 (F := Ideal) c a1 h1 x0 (ix2 r l) = Cert.Ghm.mxE (pix x0 r l) := by
  generalize hR : Cert.Ghm.mxE (pix x0 r l) = R
  unfold Cert.Ghm.mxE pix at hR
  pointwise [runFirst.sl.r_2, runFirst.sl.r_3, runFirst.sl.r_4, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, slab_at]
  exact hR

/-- the window's cross entropies, -/
theorem first_ce (c : Dev nD) {a1} (h1 : Memref.IsWhole a1) {a2} (h2 : Memref.IsWhole a2) (x0 : Vec Ideal S1x19x64x512 .f32) (x1 : Vec Ideal S1x64x512 .i32) :
    runFirst.sl.r_21 (F := Ideal) c a1 h1 a2 h2 x0 x1 = ceB x0 x1 := by
  refine ext2 fun r l => ?_
  show _ = Cert.Ghm.ceE (pix x0 r l) (x1 (ix3 0 r l))
  generalize hR : Cert.Ghm.ceE (pix x0 r l) (x1 (ix3 0 r l)) = R
  have hm := first_mx c h1 x0 r l
  unfold Cert.Ghm.ceE Cert.Ghm.dnE Cert.Ghm.ptE at hR
  generalize Cert.Ghm.mxE (pix x0 r l) = M at hm hR
  unfold pix at hR
  unfold runFirst.sl.r_21 runFirst.sl.r_20 runFirst.sl.r_19 runFirst.sl.r_18 runFirst.sl.r_17 runFirst.sl.r_16 runFirst.sl.r_15 runFirst.sl.r_14 runFirst.sl.r_13 runFirst.sl.r_12 runFirst.sl.r_11 runFirst.sl.r_10 runFirst.sl.r_9 runFirst.sl.r_8 runFirst.sl.r_7 runFirst.sl.r_6 runFirst.sl.r_5
  unfold runFirst.sl.r_4 k0_pay191 at *
  dsimp only
  generalize k0_pay187 (F := Ideal) _ _ _ _ _ = v60 at hm ⊢
  pointwise [runFirst.sl.r, runFirst.sl.r_1, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, slab_at, targets_at, hm]
  exact hR

/-- its gradients, -/
theorem first_gr (c : Dev nD) {a1} (h1 : Memref.IsWhole a1) {a2} (h2 : Memref.IsWhole a2) (x0 : Vec Ideal S1x19x64x512 .f32) (x1 : Vec Ideal S1x64x512 .i32) :
    runFirst.sl.r_22 (F := Ideal) c a1 h1 a2 h2 x0 x1 = grB x0 x1 := by
  refine ext2 fun r l => ?_
  show _ = Cert.Ghm.grE (pix x0 r l) (x1 (ix3 0 r l))
  generalize hR : Cert.Ghm.grE (pix x0 r l) (x1 (ix3 0 r l)) = R
  have hm := first_mx c h1 x0 r l
  unfold Cert.Ghm.grE Cert.Ghm.dnE Cert.Ghm.ptE at hR
  generalize Cert.Ghm.mxE (pix x0 r l) = M at hm hR
  unfold pix at hR
  unfold runFirst.sl.r_22 runFirst.sl.r_20 runFirst.sl.r_19 runFirst.sl.r_18 runFirst.sl.r_17 runFirst.sl.r_16 runFirst.sl.r_15 runFirst.sl.r_14 runFirst.sl.r_13 runFirst.sl.r_12 runFirst.sl.r_11 runFirst.sl.r_10 runFirst.sl.r_9 runFirst.sl.r_8 runFirst.sl.r_7 runFirst.sl.r_6 runFirst.sl.r_5
  unfold runFirst.sl.r_4 k0_pay191 at *
  dsimp only
  generalize k0_pay187 (F := Ideal) _ _ _ _ _ = v60 at hm ⊢
  pointwise [runFirst.sl.r, runFirst.sl.r_1, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_22, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, slab_at, targets_at, hm]
  exact hR

/-- its weighting bins -/
theorem first_wb (c : Dev nD) {a1} (h1 : Memref.IsWhole a1) {a2} (h2 : Memref.IsWhole a2) (x0 : Vec Ideal S1x19x64x512 .f32) (x1 : Vec Ideal S1x64x512 .i32) :
    runFirst.sl.r_24 (F := Ideal) c a1 h1 a2 h2 x0 x1 = wbB x0 x1 := by
  refine ext2 fun r l => ?_
  show _ = Cert.Ghm.wbE (grB x0 x1 (ix2 r l))
  rw [← first_gr c h1 h2 x0 x1]
  unfold runFirst.sl.r_24 runFirst.sl.r_22
  exact wb_step ..

/-- and its counting bins. -/
theorem first_hb (c : Dev nD) {a1} (h1 : Memref.IsWhole a1) {a2} (h2 : Memref.IsWhole a2) (x0 : Vec Ideal S1x19x64x512 .f32) (x1 : Vec Ideal S1x64x512 .i32) :
    runFirst.sl.r_25 (F := Ideal) c a1 h1 a2 h2 x0 x1 = hbB x0 x1 := by
  refine ext2 fun r l => ?_
  show _ = Cert.Ghm.hbE (grB x0 x1 (ix2 r l))
  rw [← first_gr c h1 h2 x0 x1]
  unfold runFirst.sl.r_25
  refine hb_step _ _ (fun r l => ?_) r l
  unfold runFirst.sl.r_23 runFirst.sl.r_22
  exact kc_step ..

/-- The mid kind of point computes each pixel's largest prediction, -/
theorem mid_mx (c : Dev nD) {a1} (h1 : Memref.IsWhole a1) (x0 : Vec Ideal S1x19x64x512 .f32) (r : Fin 64) (l : Fin 512) :
    runMid.sl.r_4 (F := Ideal) c a1 h1 x0 (ix2 r l) = Cert.Ghm.mxE (pix x0 r l) := by
  generalize hR : Cert.Ghm.mxE (pix x0 r l) = R
  unfold Cert.Ghm.mxE pix at hR
  pointwise [runMid.sl.r_2, runMid.sl.r_3, runMid.sl.r_4, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, slab_at]
  exact hR

/-- the window's cross entropies, -/
theorem mid_ce (c : Dev nD) {a1} (h1 : Memref.IsWhole a1) {a2} (h2 : Memref.IsWhole a2) (x0 : Vec Ideal S1x19x64x512 .f32) (x1 : Vec Ideal S1x64x512 .i32) :
    runMid.sl.r_21 (F := Ideal) c a1 h1 a2 h2 x0 x1 = ceB x0 x1 := by
  refine ext2 fun r l => ?_
  show _ = Cert.Ghm.ceE (pix x0 r l) (x1 (ix3 0 r l))
  generalize hR : Cert.Ghm.ceE (pix x0 r l) (x1 (ix3 0 r l)) = R
  have hm := mid_mx c h1 x0 r l
  unfold Cert.Ghm.ceE Cert.Ghm.dnE Cert.Ghm.ptE at hR
  generalize Cert.Ghm.mxE (pix x0 r l) = M at hm hR
  unfold pix at hR
  unfold runMid.sl.r_21 runMid.sl.r_20 runMid.sl.r_19 runMid.sl.r_18 runMid.sl.r_17 runMid.sl.r_16 runMid.sl.r_15 runMid.sl.r_14 runMid.sl.r_13 runMid.sl.r_12 runMid.sl.r_11 runMid.sl.r_10 runMid.sl.r_9 runMid.sl.r_8 runMid.sl.r_7 runMid.sl.r_6 runMid.sl.r_5
  unfold runMid.sl.r_4 k0_pay191 at *
  dsimp only
  generalize k0_pay187 (F := Ideal) _ _ _ _ _ = v60 at hm ⊢
  pointwise [runMid.sl.r, runMid.sl.r_1, runMid.sl.r_5, runMid.sl.r_6, runMid.sl.r_7, runMid.sl.r_8, runMid.sl.r_9, runMid.sl.r_10, runMid.sl.r_11, runMid.sl.r_12, runMid.sl.r_13, runMid.sl.r_14, runMid.sl.r_15, runMid.sl.r_16, runMid.sl.r_17, runMid.sl.r_18, runMid.sl.r_19, runMid.sl.r_20, runMid.sl.r_21, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, slab_at, targets_at, hm]
  exact hR

/-- its gradients, -/
theorem mid_gr (c : Dev nD) {a1} (h1 : Memref.IsWhole a1) {a2} (h2 : Memref.IsWhole a2) (x0 : Vec Ideal S1x19x64x512 .f32) (x1 : Vec Ideal S1x64x512 .i32) :
    runMid.sl.r_22 (F := Ideal) c a1 h1 a2 h2 x0 x1 = grB x0 x1 := by
  refine ext2 fun r l => ?_
  show _ = Cert.Ghm.grE (pix x0 r l) (x1 (ix3 0 r l))
  generalize hR : Cert.Ghm.grE (pix x0 r l) (x1 (ix3 0 r l)) = R
  have hm := mid_mx c h1 x0 r l
  unfold Cert.Ghm.grE Cert.Ghm.dnE Cert.Ghm.ptE at hR
  generalize Cert.Ghm.mxE (pix x0 r l) = M at hm hR
  unfold pix at hR
  unfold runMid.sl.r_22 runMid.sl.r_20 runMid.sl.r_19 runMid.sl.r_18 runMid.sl.r_17 runMid.sl.r_16 runMid.sl.r_15 runMid.sl.r_14 runMid.sl.r_13 runMid.sl.r_12 runMid.sl.r_11 runMid.sl.r_10 runMid.sl.r_9 runMid.sl.r_8 runMid.sl.r_7 runMid.sl.r_6 runMid.sl.r_5
  unfold runMid.sl.r_4 k0_pay191 at *
  dsimp only
  generalize k0_pay187 (F := Ideal) _ _ _ _ _ = v60 at hm ⊢
  pointwise [runMid.sl.r, runMid.sl.r_1, runMid.sl.r_5, runMid.sl.r_6, runMid.sl.r_7, runMid.sl.r_8, runMid.sl.r_9, runMid.sl.r_10, runMid.sl.r_11, runMid.sl.r_12, runMid.sl.r_13, runMid.sl.r_14, runMid.sl.r_15, runMid.sl.r_16, runMid.sl.r_17, runMid.sl.r_18, runMid.sl.r_19, runMid.sl.r_20, runMid.sl.r_22, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, slab_at, targets_at, hm]
  exact hR

/-- its weighting bins -/
theorem mid_wb (c : Dev nD) {a1} (h1 : Memref.IsWhole a1) {a2} (h2 : Memref.IsWhole a2) (x0 : Vec Ideal S1x19x64x512 .f32) (x1 : Vec Ideal S1x64x512 .i32) :
    runMid.sl.r_24 (F := Ideal) c a1 h1 a2 h2 x0 x1 = wbB x0 x1 := by
  refine ext2 fun r l => ?_
  show _ = Cert.Ghm.wbE (grB x0 x1 (ix2 r l))
  rw [← mid_gr c h1 h2 x0 x1]
  unfold runMid.sl.r_24 runMid.sl.r_22
  exact wb_step ..

/-- and its counting bins. -/
theorem mid_hb (c : Dev nD) {a1} (h1 : Memref.IsWhole a1) {a2} (h2 : Memref.IsWhole a2) (x0 : Vec Ideal S1x19x64x512 .f32) (x1 : Vec Ideal S1x64x512 .i32) :
    runMid.sl.r_25 (F := Ideal) c a1 h1 a2 h2 x0 x1 = hbB x0 x1 := by
  refine ext2 fun r l => ?_
  show _ = Cert.Ghm.hbE (grB x0 x1 (ix2 r l))
  rw [← mid_gr c h1 h2 x0 x1]
  unfold runMid.sl.r_25
  refine hb_step _ _ (fun r l => ?_) r l
  unfold runMid.sl.r_23 runMid.sl.r_22
  exact kc_step ..

/-- The last kind of point computes each pixel's largest prediction, -/
theorem last_mx (c : Dev nD) {a1} (h1 : Memref.IsWhole a1) (x0 : Vec Ideal S1x19x64x512 .f32) (r : Fin 64) (l : Fin 512) :
    runLast.sl.r_4 (F := Ideal) c a1 h1 x0 (ix2 r l) = Cert.Ghm.mxE (pix x0 r l) := by
  generalize hR : Cert.Ghm.mxE (pix x0 r l) = R
  unfold Cert.Ghm.mxE pix at hR
  pointwise [runLast.sl.r_2, runLast.sl.r_3, runLast.sl.r_4, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, slab_at]
  exact hR

/-- the window's cross entropies, -/
theorem last_ce (c : Dev nD) {a1} (h1 : Memref.IsWhole a1) {a2} (h2 : Memref.IsWhole a2) (x0 : Vec Ideal S1x19x64x512 .f32) (x1 : Vec Ideal S1x64x512 .i32) :
    runLast.sl.r_21 (F := Ideal) c a1 h1 a2 h2 x0 x1 = ceB x0 x1 := by
  refine ext2 fun r l => ?_
  show _ = Cert.Ghm.ceE (pix x0 r l) (x1 (ix3 0 r l))
  generalize hR : Cert.Ghm.ceE (pix x0 r l) (x1 (ix3 0 r l)) = R
  have hm := last_mx c h1 x0 r l
  unfold Cert.Ghm.ceE Cert.Ghm.dnE Cert.Ghm.ptE at hR
  generalize Cert.Ghm.mxE (pix x0 r l) = M at hm hR
  unfold pix at hR
  unfold runLast.sl.r_21 runLast.sl.r_20 runLast.sl.r_19 runLast.sl.r_18 runLast.sl.r_17 runLast.sl.r_16 runLast.sl.r_15 runLast.sl.r_14 runLast.sl.r_13 runLast.sl.r_12 runLast.sl.r_11 runLast.sl.r_10 runLast.sl.r_9 runLast.sl.r_8 runLast.sl.r_7 runLast.sl.r_6 runLast.sl.r_5
  unfold runLast.sl.r_4 k0_pay191 at *
  dsimp only
  generalize k0_pay187 (F := Ideal) _ _ _ _ _ = v60 at hm ⊢
  pointwise [runLast.sl.r, runLast.sl.r_1, runLast.sl.r_5, runLast.sl.r_6, runLast.sl.r_7, runLast.sl.r_8, runLast.sl.r_9, runLast.sl.r_10, runLast.sl.r_11, runLast.sl.r_12, runLast.sl.r_13, runLast.sl.r_14, runLast.sl.r_15, runLast.sl.r_16, runLast.sl.r_17, runLast.sl.r_18, runLast.sl.r_19, runLast.sl.r_20, runLast.sl.r_21, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, slab_at, targets_at, hm]
  exact hR

/-- its gradients, -/
theorem last_gr (c : Dev nD) {a1} (h1 : Memref.IsWhole a1) {a2} (h2 : Memref.IsWhole a2) (x0 : Vec Ideal S1x19x64x512 .f32) (x1 : Vec Ideal S1x64x512 .i32) :
    runLast.sl.r_22 (F := Ideal) c a1 h1 a2 h2 x0 x1 = grB x0 x1 := by
  refine ext2 fun r l => ?_
  show _ = Cert.Ghm.grE (pix x0 r l) (x1 (ix3 0 r l))
  generalize hR : Cert.Ghm.grE (pix x0 r l) (x1 (ix3 0 r l)) = R
  have hm := last_mx c h1 x0 r l
  unfold Cert.Ghm.grE Cert.Ghm.dnE Cert.Ghm.ptE at hR
  generalize Cert.Ghm.mxE (pix x0 r l) = M at hm hR
  unfold pix at hR
  unfold runLast.sl.r_22 runLast.sl.r_20 runLast.sl.r_19 runLast.sl.r_18 runLast.sl.r_17 runLast.sl.r_16 runLast.sl.r_15 runLast.sl.r_14 runLast.sl.r_13 runLast.sl.r_12 runLast.sl.r_11 runLast.sl.r_10 runLast.sl.r_9 runLast.sl.r_8 runLast.sl.r_7 runLast.sl.r_6 runLast.sl.r_5
  unfold runLast.sl.r_4 k0_pay191 at *
  dsimp only
  generalize k0_pay187 (F := Ideal) _ _ _ _ _ = v60 at hm ⊢
  pointwise [runLast.sl.r, runLast.sl.r_1, runLast.sl.r_5, runLast.sl.r_6, runLast.sl.r_7, runLast.sl.r_8, runLast.sl.r_9, runLast.sl.r_10, runLast.sl.r_11, runLast.sl.r_12, runLast.sl.r_13, runLast.sl.r_14, runLast.sl.r_15, runLast.sl.r_16, runLast.sl.r_17, runLast.sl.r_18, runLast.sl.r_19, runLast.sl.r_20, runLast.sl.r_22, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, slab_at, targets_at, hm]
  exact hR

/-- its weighting bins -/
theorem last_wb (c : Dev nD) {a1} (h1 : Memref.IsWhole a1) {a2} (h2 : Memref.IsWhole a2) (x0 : Vec Ideal S1x19x64x512 .f32) (x1 : Vec Ideal S1x64x512 .i32) :
    runLast.sl.r_24 (F := Ideal) c a1 h1 a2 h2 x0 x1 = wbB x0 x1 := by
  refine ext2 fun r l => ?_
  show _ = Cert.Ghm.wbE (grB x0 x1 (ix2 r l))
  rw [← last_gr c h1 h2 x0 x1]
  unfold runLast.sl.r_24 runLast.sl.r_22
  exact wb_step ..

/-- and its counting bins. -/
theorem last_hb (c : Dev nD) {a1} (h1 : Memref.IsWhole a1) {a2} (h2 : Memref.IsWhole a2) (x0 : Vec Ideal S1x19x64x512 .f32) (x1 : Vec Ideal S1x64x512 .i32) :
    runLast.sl.r_25 (F := Ideal) c a1 h1 a2 h2 x0 x1 = hbB x0 x1 := by
  refine ext2 fun r l => ?_
  show _ = Cert.Ghm.hbE (grB x0 x1 (ix2 r l))
  rw [← last_gr c h1 h2 x0 x1]
  unfold runLast.sl.r_25
  refine hb_step _ _ (fun r l => ?_) r l
  unfold runLast.sl.r_23 runLast.sl.r_22
  exact kc_step ..

end Cert.KernelIdeal.Ghm

end
-- ==== Proof.KernelIdeal.Pieces.lean ====
/-
What the body's stores leave in the three running buffers: at a bin's rows, what was there plus the window's share of the bin.
-/
module

public import proofs.«01_k».proof.Proof.KernelIdeal.Words
public import Idealize.ShloMosaic.Lib.Pointwise
public import Idealize.ShloMosaic.Lib.Pipeline.ValueKit

@[expose] public section

set_option maxRecDepth 16384

noncomputable section

namespace Cert.KernelIdeal.Ghm

open Idealize.ShloMosaic Idealize.ShloMosaic.TcCoe
open Idealize.SL.Sem
open Idealize.ShloMosaic.Pipeline (Dat)
open Cert.KernelIdeal Cert.KernelIdeal.Gen

/-- The bins, as the words the body compares with. -/
def binBits : Fin 32 → BitVec 32 :=
  ![0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32, 0x41600000#32, 0x41700000#32, 0x41800000#32, 0x41880000#32, 0x41900000#32, 0x41980000#32, 0x41A00000#32, 0x41A80000#32, 0x41B00000#32, 0x41B80000#32, 0x41C00000#32, 0x41C80000#32, 0x41D00000#32, 0x41D80000#32, 0x41E00000#32, 0x41E80000#32, 0#32, 0#32]

/-- A column of sixty-four added up into eight: every eighth entry, from each of the first eight. -/
def fold8 (f : Fin 64 → EReal) (r : Fin 8) : EReal :=
  (f ⟨r.val, by omega⟩ + f ⟨32 + r.val, by omega⟩ + (f ⟨16 + r.val, by omega⟩ + f ⟨32 + (16 + r.val), by omega⟩)) +
    (f ⟨8 + r.val, by omega⟩ + f ⟨32 + (8 + r.val), by omega⟩ + (f ⟨16 + (8 + r.val), by omega⟩ + f ⟨32 + (16 + (8 + r.val)), by omega⟩))

/-- A window's share of a bin's sum, at one of the bin's eight rows and a lane. -/
def binAdd (ce wb : FVec Ideal S64x512 .f32) (b : EReal) (r : Fin 8) (l : Fin 512) : EReal :=
  fold8 (fun q => if wb (ix2 q l) = b then ce (ix2 q l) else 0) r

/-- What a bin's rows hold after a window: what they held and the window's share. -/
def GS (ce wb : FVec Ideal S64x512 .f32) (s : Vec Ideal S240x512 .f32) (y : S240x512.Idx) : EReal :=
  s y + binAdd ce wb (Ideal.ofBits .f32 (binBits ⟨(y 0).val / 8, by have := (y 0).isLt; simp at this; omega⟩))
    ⟨(y 0).val % 8, by omega⟩ (y 1)

/-- That, at a place of the eight rows from row `o`. -/
theorem GS_emb (ce wb : FVec Ideal S64x512 .f32) (s : Vec Ideal S240x512 .f32) (o : ℕ) (ho : o % 8 = 0)
    (inb : ∀ a, (![o, 0] : Fin 2 → ℕ) a + (![8, 512] : Fin 2 → ℕ) a ≤ S240x512.size a) (r : Fin 8) (l : Fin 512) :
    GS ce wb s ((Rect.unit (s := S240x512) ![o, 0] ![8, 512] inb).emb (ix2 r l))
      = s ((Rect.unit (s := S240x512) ![o, 0] ![8, 512] inb).emb (ix2 r l))
        + binAdd ce wb (Ideal.ofBits .f32 (binBits ⟨o / 8, by have := inb 0; simp at this; omega⟩)) r l := by
  unfold GS
  have e0 : (((Rect.unit (s := S240x512) ![o, 0] ![8, 512] inb).emb (ix2 r l)) 0).val = o + r.val := by
    simp [Rect.emb, Rect.unit, ix2]
  have e1 : ((Rect.unit (s := S240x512) ![o, 0] ![8, 512] inb).emb (ix2 r l)) 1 = l := by
    refine Fin.ext ?_
    simp [Rect.emb, Rect.unit, ix2]
  have hr := r.isLt
  congr 2
  · congr 2
    refine Fin.ext ?_
    show (((Rect.unit (s := S240x512) ![o, 0] ![8, 512] inb).emb (ix2 r l)) 0).val / 8 = o / 8
    rw [e0]; omega
  · refine Fin.ext ?_
    show (((Rect.unit (s := S240x512) ![o, 0] ![8, 512] inb).emb (ix2 r l)) 0).val % 8 = r.val
    rw [e0]; omega

/-- A place of eight rows is a row and a lane. -/
theorem idx8 (x : S8x512.Idx) : ∃ (r : Fin 8) (l : Fin 512), x = ix2 r l :=
  ⟨x 0, x 1, by funext a; fin_cases a <;> rfl⟩

/-- A middle point's stores into the buffer of sums: each bin's rows get what they held and the window's share. -/
theorem mid_S (c : Dev nD) {a1} (h1 : Memref.IsWhole a1) {a2} (h2 : Memref.IsWhole a2) {a4} (h4 : Memref.IsWhole a4)
    (x0 : Vec Ideal S1x19x64x512 .f32) (x1 : Vec Ideal S1x64x512 .i32) (s : Vec Ideal S240x512 .f32) :
    ∀ p ∈ runMid.sl.HS0_30 (F := Ideal) c a1 h1 a2 h2 a4 h4 x0 x1 s, ∀ x, p.2 x = GS (ceB x0 x1) (wbB x0 x1) s (p.1.emb x) := by
  unfold runMid.sl.HS0_30
  simp only [List.forall_mem_cons, runMid.sl.v1282, runMid.sl.v1248, runMid.sl.v1214,
      runMid.sl.r_57, runMid.sl.r_55, runMid.sl.v1146, runMid.sl.v1112, runMid.sl.v1078, runMid.sl.v1044,
      runMid.sl.v1010, runMid.sl.r_51, runMid.sl.r_52, runMid.sl.cst_367, runMid.sl.v976, runMid.sl.v942,
      runMid.sl.v908, runMid.sl.r_47, runMid.sl.v840, runMid.sl.r_45, runMid.sl.v806, runMid.sl.v772, runMid.sl.v738,
      runMid.sl.v704, runMid.sl.r_40, runMid.sl.r_41, runMid.sl.r_38, runMid.sl.v670, runMid.sl.v636, runMid.sl.v602,
      runMid.sl.v568, runMid.sl.v534, runMid.sl.r_34, runMid.sl.v500, runMid.sl.v466, runMid.sl.v432, runMid.sl.r_29,
      runMid.sl.r_27, runMid.sl.v364, runMid.sl.cst_189, runMid.sl.v330, runMid.sl.v398, runMid.sl.v874,
      runMid.sl.v1180, mid_ce, mid_wb]
  generalize ceB x0 x1 = ce
  generalize wbB x0 x1 = wb
  and_intros <;>
  first
  | exact fun p hp => absurd hp List.not_mem_nil
  | intro x
    obtain ⟨r, l, rfl⟩ := idx8 x
    refine Eq.trans ?_ (GS_emb _ wb s _ (by decide) _ r l).symm
    unfold binAdd fold8 binBits
    pointwise [k0_pay229, k0_pay230, k0_pay233, k0_pay234, k0_pay236, k0_pay237, k0_pay239, k0_pay240, k0_pay241, k0_pay243,
      k0_pay244, k0_pay249, k0_pay250, k0_pay252, k0_pay253, k0_pay255, k0_pay256, k0_pay257, k0_pay259, k0_pay260,
      k0_pay262, k0_pay263, k0_pay267, k0_pay268, k0_pay270, k0_pay271, k0_pay273, k0_pay274, k0_pay275, k0_pay276,
      k0_pay277, k0_pay279, k0_pay280, k0_pay283, k0_pay284, k0_pay287, k0_pay288, k0_pay290, k0_pay291, k0_pay292,
      k0_pay294, k0_pay295, k0_pay296, k0_pay298, k0_pay299, k0_pay303, k0_pay304, k0_pay306, k0_pay307, k0_pay309,
      k0_pay310, k0_pay311, k0_pay312, k0_pay313, k0_pay315, k0_pay316, k0_pay318, k0_pay319, k0_pay322, k0_pay323,
      k0_pay325, k0_pay326, k0_pay328, k0_pay329, k0_pay330, k0_pay332, k0_pay333, k0_pay337, k0_pay338, k0_pay341,
      k0_pay342, load_at]

/-- A middle point's stores into the buffer of counts: each bin's rows get what they held and the window's share. -/
theorem mid_N (c : Dev nD) {a1} (h1 : Memref.IsWhole a1) {a2} (h2 : Memref.IsWhole a2) {a4} (h4 : Memref.IsWhole a4)
    (x0 : Vec Ideal S1x19x64x512 .f32) (x1 : Vec Ideal S1x64x512 .i32) (s : Vec Ideal S240x512 .f32) :
    ∀ p ∈ runMid.sl.HS1_30 (F := Ideal) c a1 h1 a2 h2 a4 h4 x0 x1 s, ∀ x, p.2 x = GS (fun _ => 1) (wbB x0 x1) s (p.1.emb x) := by
  unfold runMid.sl.HS1_30
  simp only [List.forall_mem_cons, runMid.sl.v1298, runMid.sl.r_60, runMid.sl.v1230, runMid.sl.r_58,
      runMid.sl.r_59, runMid.sl.r_56, runMid.sl.v1196, runMid.sl.r_55, runMid.sl.v1162, runMid.sl.v1128,
      runMid.sl.v1094, runMid.sl.r_54, runMid.sl.r_53, runMid.sl.v1060, runMid.sl.r_50, runMid.sl.v1026,
      runMid.sl.cst_367, runMid.sl.v992, runMid.sl.v958, runMid.sl.v924, runMid.sl.r_48, runMid.sl.r_49,
      runMid.sl.r_46, runMid.sl.v890, runMid.sl.r_44, runMid.sl.v856, runMid.sl.v822, runMid.sl.r_43, runMid.sl.r_42,
      runMid.sl.v754, runMid.sl.r_39, runMid.sl.v720, runMid.sl.r_38, runMid.sl.v686, runMid.sl.v652, runMid.sl.v618,
      runMid.sl.r_36, runMid.sl.r_37, runMid.sl.r_35, runMid.sl.v584, runMid.sl.r_33, runMid.sl.v550, runMid.sl.v516,
      runMid.sl.r_32, runMid.sl.v448, runMid.sl.r_30, runMid.sl.r_31, runMid.sl.r_28, runMid.sl.v414, runMid.sl.r_27,
      runMid.sl.v380, runMid.sl.v346, runMid.sl.r_26, runMid.sl.v482, runMid.sl.v788, runMid.sl.v1264, mid_wb]
  generalize wbB x0 x1 = wb
  and_intros <;>
  first
  | exact fun p hp => absurd hp List.not_mem_nil
  | intro x
    obtain ⟨r, l, rfl⟩ := idx8 x
    refine Eq.trans ?_ (GS_emb _ wb s _ (by decide) _ r l).symm
    unfold binAdd fold8 binBits
    pointwise [k0_pay228, k0_pay229, k0_pay231, k0_pay232, k0_pay233, k0_pay235, k0_pay236, k0_pay238, k0_pay239, k0_pay242,
      k0_pay243, k0_pay245, k0_pay246, k0_pay247, k0_pay248, k0_pay249, k0_pay251, k0_pay252, k0_pay254, k0_pay255,
      k0_pay258, k0_pay259, k0_pay261, k0_pay262, k0_pay264, k0_pay265, k0_pay266, k0_pay267, k0_pay269, k0_pay270,
      k0_pay272, k0_pay273, k0_pay278, k0_pay279, k0_pay281, k0_pay282, k0_pay283, k0_pay285, k0_pay286, k0_pay287,
      k0_pay289, k0_pay290, k0_pay293, k0_pay294, k0_pay297, k0_pay298, k0_pay300, k0_pay301, k0_pay302, k0_pay303,
      k0_pay305, k0_pay306, k0_pay308, k0_pay309, k0_pay314, k0_pay315, k0_pay317, k0_pay318, k0_pay320, k0_pay321,
      k0_pay322, k0_pay324, k0_pay325, k0_pay327, k0_pay328, k0_pay331, k0_pay332, k0_pay334, k0_pay335, k0_pay336,
      k0_pay337, k0_pay339, k0_pay340, k0_pay341, k0_pay343, load_at]

/-- The last point's stores into the buffer of sums: each bin's rows get what they held and the window's share. -/
theorem last_S (c : Dev nD) {a1} (h1 : Memref.IsWhole a1) {a2} (h2 : Memref.IsWhole a2) {a4} (h4 : Memref.IsWhole a4)
    (x0 : Vec Ideal S1x19x64x512 .f32) (x1 : Vec Ideal S1x64x512 .i32) (s : Vec Ideal S240x512 .f32) :
    ∀ p ∈ runLast.sl.HS0_30 (F := Ideal) c a1 h1 a2 h2 a4 h4 x0 x1 s, ∀ x, p.2 x = GS (ceB x0 x1) (wbB x0 x1) s (p.1.emb x) := by
  unfold runLast.sl.HS0_30
  simp only [List.forall_mem_cons, runLast.sl.v1282, runLast.sl.v1248, runLast.sl.v1214,
      runLast.sl.r_57, runLast.sl.r_55, runLast.sl.v1146, runLast.sl.v1112, runLast.sl.v1078, runLast.sl.v1044,
      runLast.sl.v1010, runLast.sl.r_51, runLast.sl.r_52, runLast.sl.cst_367, runLast.sl.v976, runLast.sl.v942,
      runLast.sl.v908, runLast.sl.r_47, runLast.sl.v840, runLast.sl.r_45, runLast.sl.v806, runLast.sl.v772,
      runLast.sl.v738, runLast.sl.v704, runLast.sl.r_40, runLast.sl.r_41, runLast.sl.r_38, runLast.sl.v670,
      runLast.sl.v636, runLast.sl.v602, runLast.sl.v568, runLast.sl.v534, runLast.sl.r_34, runLast.sl.v500,
      runLast.sl.v466, runLast.sl.v432, runLast.sl.r_29, runLast.sl.r_27, runLast.sl.v364, runLast.sl.cst_189,
      runLast.sl.v330, runLast.sl.v398, runLast.sl.v874, runLast.sl.v1180, last_ce, last_wb]
  generalize ceB x0 x1 = ce
  generalize wbB x0 x1 = wb
  and_intros <;>
  first
  | exact fun p hp => absurd hp List.not_mem_nil
  | intro x
    obtain ⟨r, l, rfl⟩ := idx8 x
    refine Eq.trans ?_ (GS_emb _ wb s _ (by decide) _ r l).symm
    unfold binAdd fold8 binBits
    pointwise [k0_pay229, k0_pay230, k0_pay233, k0_pay234, k0_pay236, k0_pay237, k0_pay239, k0_pay240, k0_pay241, k0_pay243,
      k0_pay244, k0_pay249, k0_pay250, k0_pay252, k0_pay253, k0_pay255, k0_pay256, k0_pay257, k0_pay259, k0_pay260,
      k0_pay262, k0_pay263, k0_pay267, k0_pay268, k0_pay270, k0_pay271, k0_pay273, k0_pay274, k0_pay275, k0_pay276,
      k0_pay277, k0_pay279, k0_pay280, k0_pay283, k0_pay284, k0_pay287, k0_pay288, k0_pay290, k0_pay291, k0_pay292,
      k0_pay294, k0_pay295, k0_pay296, k0_pay298, k0_pay299, k0_pay303, k0_pay304, k0_pay306, k0_pay307, k0_pay309,
      k0_pay310, k0_pay311, k0_pay312, k0_pay313, k0_pay315, k0_pay316, k0_pay318, k0_pay319, k0_pay322, k0_pay323,
      k0_pay325, k0_pay326, k0_pay328, k0_pay329, k0_pay330, k0_pay332, k0_pay333, k0_pay337, k0_pay338, k0_pay341,
      k0_pay342, load_at]

/-- The last point's stores into the buffer of counts: each bin's rows get what they held and the window's share. -/
theorem last_N (c : Dev nD) {a1} (h1 : Memref.IsWhole a1) {a2} (h2 : Memref.IsWhole a2) {a4} (h4 : Memref.IsWhole a4)
    (x0 : Vec Ideal S1x19x64x512 .f32) (x1 : Vec Ideal S1x64x512 .i32) (s : Vec Ideal S240x512 .f32) :
    ∀ p ∈ runLast.sl.HS1_30 (F := Ideal) c a1 h1 a2 h2 a4 h4 x0 x1 s, ∀ x, p.2 x = GS (fun _ => 1) (wbB x0 x1) s (p.1.emb x) := by
  unfold runLast.sl.HS1_30
  simp only [List.forall_mem_cons, runLast.sl.v1298, runLast.sl.r_60, runLast.sl.v1230,
      runLast.sl.r_58, runLast.sl.r_59, runLast.sl.r_56, runLast.sl.v1196, runLast.sl.r_55, runLast.sl.v1162,
      runLast.sl.v1128, runLast.sl.v1094, runLast.sl.r_54, runLast.sl.r_53, runLast.sl.v1060, runLast.sl.r_50,
      runLast.sl.v1026, runLast.sl.cst_367, runLast.sl.v992, runLast.sl.v958, runLast.sl.v924, runLast.sl.r_48,
      runLast.sl.r_49, runLast.sl.r_46, runLast.sl.v890, runLast.sl.r_44, runLast.sl.v856, runLast.sl.v822,
      runLast.sl.r_43, runLast.sl.r_42, runLast.sl.v754, runLast.sl.r_39, runLast.sl.v720, runLast.sl.r_38,
      runLast.sl.v686, runLast.sl.v652, runLast.sl.v618, runLast.sl.r_36, runLast.sl.r_37, runLast.sl.r_35,
      runLast.sl.v584, runLast.sl.r_33, runLast.sl.v550, runLast.sl.v516, runLast.sl.r_32, runLast.sl.v448,
      runLast.sl.r_30, runLast.sl.r_31, runLast.sl.r_28, runLast.sl.v414, runLast.sl.r_27, runLast.sl.v380,
      runLast.sl.v346, runLast.sl.r_26, runLast.sl.v482, runLast.sl.v788, runLast.sl.v1264, last_wb]
  generalize wbB x0 x1 = wb
  and_intros <;>
  first
  | exact fun p hp => absurd hp List.not_mem_nil
  | intro x
    obtain ⟨r, l, rfl⟩ := idx8 x
    refine Eq.trans ?_ (GS_emb _ wb s _ (by decide) _ r l).symm
    unfold binAdd fold8 binBits
    pointwise [k0_pay228, k0_pay229, k0_pay231, k0_pay232, k0_pay233, k0_pay235, k0_pay236, k0_pay238, k0_pay239, k0_pay242,
      k0_pay243, k0_pay245, k0_pay246, k0_pay247, k0_pay248, k0_pay249, k0_pay251, k0_pay252, k0_pay254, k0_pay255,
      k0_pay258, k0_pay259, k0_pay261, k0_pay262, k0_pay264, k0_pay265, k0_pay266, k0_pay267, k0_pay269, k0_pay270,
      k0_pay272, k0_pay273, k0_pay278, k0_pay279, k0_pay281, k0_pay282, k0_pay283, k0_pay285, k0_pay286, k0_pay287,
      k0_pay289, k0_pay290, k0_pay293, k0_pay294, k0_pay297, k0_pay298, k0_pay300, k0_pay301, k0_pay302, k0_pay303,
      k0_pay305, k0_pay306, k0_pay308, k0_pay309, k0_pay314, k0_pay315, k0_pay317, k0_pay318, k0_pay320, k0_pay321,
      k0_pay322, k0_pay324, k0_pay325, k0_pay327, k0_pay328, k0_pay331, k0_pay332, k0_pay334, k0_pay335, k0_pay336,
      k0_pay337, k0_pay339, k0_pay340, k0_pay341, k0_pay343, load_at]

end Cert.KernelIdeal.Ghm

end
-- ==== Proof.KernelIdeal.PiecesD.lean ====
/-
What the body's stores leave in the third running buffer: at a bin's row, what was there plus what the window's pixels whose two
bins differ correct the bin's count by.
-/
module

public import proofs.«01_k».proof.Proof.KernelIdeal.Pieces
public import Idealize.ShloMosaic.Lib.Pointwise
public import Idealize.ShloMosaic.Lib.Pipeline.ValueKit

@[expose] public section

set_option maxRecDepth 16384

noncomputable section

namespace Cert.KernelIdeal.Ghm

open Idealize.ShloMosaic Idealize.ShloMosaic.TcCoe
open Idealize.SL.Sem
open Idealize.ShloMosaic.Pipeline (Dat)
open Cert.KernelIdeal Cert.KernelIdeal.Gen

/-- Over a choice of two lists, a property of each list's members. -/
theorem forall_if {C : Prop} [Decidable C] {α : Type} (L : C → List α) (L' : List α) (Q : α → Prop)
    (h : ∀ hc, ∀ p ∈ L hc, Q p) (h' : ∀ p ∈ L', Q p) : ∀ p ∈ (if hc : C then L hc else L'), Q p := by
  split
  · exact h _
  · exact h'

/-- A load from the corrections' buffer, read at a place. -/
theorem load_corr (s : Vec Ideal S32x512 .f32) (r : Rect S32x512) (j : r.shape.Idx) :
    View.readAt (Elt Ideal) (View.whole cc0_scratch2) r.toLoadRect ((Memref.isWhole_whole cc0_scratch2).unread s) j = s (r.emb j) :=
  load_at accD (Memref.isWhole_whole _) s r j

/-- A window's correction of a bin's count, at a lane: over the marked pixels, those counted in the bin less those weighted in it. -/
def corrAdd (wb hb : FVec Ideal S64x512 .f32) (dm : IVec S64x512 1) (b : EReal) (l : Fin 512) : EReal :=
  ∑ q : Fin 64, (Scalar.select (IntOp.andi (dm (ix2 q l)) (BitVec.ofBool (decide (hb (ix2 q l) = b)))) (1 : EReal) 0
    - Scalar.select (IntOp.andi (dm (ix2 q l)) (BitVec.ofBool (decide (wb (ix2 q l) = b)))) (1 : EReal) 0)

/-- What a bin's row of corrections holds after a window. -/
def GD (wb hb : FVec Ideal S64x512 .f32) (dm : IVec S64x512 1) (s : Vec Ideal S32x512 .f32) (y : S32x512.Idx) : EReal :=
  s y + corrAdd wb hb dm (Ideal.ofBits .f32 (binBits (y 0))) (y 1)

/-- That, at a place of row `o`. -/
theorem GD_emb (wb hb : FVec Ideal S64x512 .f32) (dm : IVec S64x512 1) (s : Vec Ideal S32x512 .f32) (o : ℕ)
    (inb : ∀ a, (![o, 0] : Fin 2 → ℕ) a + (![1, 512] : Fin 2 → ℕ) a ≤ S32x512.size a) (l : Fin 512) :
    GD wb hb dm s ((Rect.unit (s := S32x512) ![o, 0] ![1, 512] inb).emb (ix2 0 l))
      = s ((Rect.unit (s := S32x512) ![o, 0] ![1, 512] inb).emb (ix2 0 l))
        + corrAdd wb hb dm (Ideal.ofBits .f32 (binBits ⟨o, by have := inb 0; simp at this; omega⟩)) l := by
  unfold GD
  have e0 : ((Rect.unit (s := S32x512) ![o, 0] ![1, 512] inb).emb (ix2 0 l)) 0
      = (⟨o, by have := inb 0; simp at this; omega⟩ : Fin 32) := by
    refine Fin.ext ?_
    simp [Rect.emb, Rect.unit, ix2]
  have e1 : ((Rect.unit (s := S32x512) ![o, 0] ![1, 512] inb).emb (ix2 0 l)) 1 = l := by
    refine Fin.ext ?_
    simp [Rect.emb, Rect.unit, ix2]
  rw [e0, e1]

/-- A place of one row is a lane. -/
theorem idx1 (x : S1x512.Idx) : ∃ l : Fin 512, x = ix2 0 l :=
  ⟨x 1, by
    funext a
    fin_cases a
    · exact Fin.ext (by have := (x 0).isLt; simp at this ⊢)
    · rfl⟩

variable (m : (ℓ : Loc nD τ sig) → Buf (Elt Ideal) ℓ)

/-- A middle point's stores into the buffer of corrections, if it makes any: each bin's row gets what it held and the window's
    correction. -/
theorem mid_D (c : Dev nD) (t : Fin cfg0.N) (h0 h2) (s0 s1 s2) :
    ∀ p ∈ (atMid (F := Ideal) m c t h0 h2 s0 s1 s2).2.2.1, ∀ x, p.2 x
      = GD (wbB (iblk m c 0 t) (iblk m c 1 t)) (hbB (iblk m c 0 t) (iblk m c 1 t))
          (k0_pay344 (wbB (iblk m c 0 t) (iblk m c 1 t)) (hbB (iblk m c 0 t) (iblk m c 1 t))) s2 (p.1.emb x) := by
  unfold atMid runMid
  dsimp only
  refine forall_if _ _ _ (fun hc => ?_) (fun p hp => absurd hp List.not_mem_nil)
  clear hc
  simp only [List.forall_mem_cons, runMid.sl.r_61, runMid.sl.r_67, runMid.sl.v1919, runMid.sl.v1419, runMid.sl.v1539,
      runMid.sl.v1479, runMid.sl.v1819, runMid.sl.v1399, runMid.sl.r_64, runMid.sl.r_78, runMid.sl.r_66,
      runMid.sl.r_80, runMid.sl.v1619, runMid.sl.r_62, runMid.sl.v1459, runMid.sl.v1879, runMid.sl.r_79,
      runMid.sl.v1739, runMid.sl.r_76, runMid.sl.r_77, runMid.sl.r_83, runMid.sl.v1379, runMid.sl.v1559,
      runMid.sl.v1699, runMid.sl.v1499, runMid.sl.r_68, runMid.sl.r_81, runMid.sl.v1659, runMid.sl.v1579,
      runMid.sl.v1439, runMid.sl.v1639, runMid.sl.r_69, runMid.sl.v1519, runMid.sl.r_63, runMid.sl.cst_189,
      runMid.sl.v1759, runMid.sl.r_74, runMid.sl.r_82, runMid.sl.v1359, runMid.sl.r_71, runMid.sl.v1839,
      runMid.sl.r_70, runMid.sl.v1599, runMid.sl.v1719, runMid.sl.v1799, runMid.sl.r_72, runMid.sl.r_73,
      runMid.sl.v1779, runMid.sl.v1859, runMid.sl.r_75, runMid.sl.r_65, runMid.sl.v1679, runMid.sl.v1899, mid_wb,
      mid_hb]
  generalize wbB (iblk m c 0 t) (iblk m c 1 t) = wb
  generalize hbB (iblk m c 0 t) (iblk m c 1 t) = hb
  generalize k0_pay344 wb hb = dm
  and_intros <;>
  first
  | exact fun p hp => absurd hp List.not_mem_nil
  | intro x
    obtain ⟨l, rfl⟩ := idx1 x
    refine Eq.trans ?_ (GD_emb wb hb dm s2 _ _ l).symm
    unfold corrAdd binBits
    pointwise [k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57,
      k0_pay58, k0_pay59, load_corr]

/-- The last point's stores into the buffer of corrections, if it makes any: each bin's row gets what it held and the window's
    correction. -/
theorem last_D (c : Dev nD) (t : Fin cfg0.N) (h0 h2) (s0 s1 s2) :
    ∀ p ∈ (atLast (F := Ideal) m c t h0 h2 s0 s1 s2).2.2.2.1, ∀ x, p.2 x
      = GD (wbB (iblk m c 0 t) (iblk m c 1 t)) (hbB (iblk m c 0 t) (iblk m c 1 t))
          (k0_pay344 (wbB (iblk m c 0 t) (iblk m c 1 t)) (hbB (iblk m c 0 t) (iblk m c 1 t))) s2 (p.1.emb x) := by
  unfold atLast runLast
  dsimp only
  refine forall_if _ _ _ (fun hc => ?_) (fun p hp => absurd hp List.not_mem_nil)
  clear hc
  simp only [List.forall_mem_cons, runLast.sl.r_61, runLast.sl.v1399, runLast.sl.r_65, runLast.sl.v1919, runLast.sl.v1859,
      runLast.sl.v1479, runLast.sl.v1579, runLast.sl.v1779, runLast.sl.r_81, runLast.sl.r_79, runLast.sl.r_77,
      runLast.sl.v1539, runLast.sl.v1639, runLast.sl.r_68, runLast.sl.r_78, runLast.sl.v1459, runLast.sl.v1819,
      runLast.sl.r_76, runLast.sl.v1679, runLast.sl.v1599, runLast.sl.v1719, runLast.sl.r_83, runLast.sl.v1419,
      runLast.sl.v1519, runLast.sl.r_63, runLast.sl.r_72, runLast.sl.r_71, runLast.sl.v1619, runLast.sl.v1439,
      runLast.sl.cst_189, runLast.sl.v1659, runLast.sl.v1759, runLast.sl.r_82, runLast.sl.v1899, runLast.sl.v1379,
      runLast.sl.r_67, runLast.sl.r_80, runLast.sl.r_69, runLast.sl.r_70, runLast.sl.v1839, runLast.sl.r_66,
      runLast.sl.r_74, runLast.sl.v1739, runLast.sl.v1559, runLast.sl.v1879, runLast.sl.v1799, runLast.sl.r_62,
      runLast.sl.v1499, runLast.sl.r_73, runLast.sl.r_64, runLast.sl.v1359, runLast.sl.v1699, runLast.sl.r_75,
      last_wb, last_hb]
  generalize wbB (iblk m c 0 t) (iblk m c 1 t) = wb
  generalize hbB (iblk m c 0 t) (iblk m c 1 t) = hb
  generalize k0_pay344 wb hb = dm
  and_intros <;>
  first
  | exact fun p hp => absurd hp List.not_mem_nil
  | intro x
    obtain ⟨l, rfl⟩ := idx1 x
    refine Eq.trans ?_ (GD_emb wb hb dm s2 _ _ l).symm
    unfold corrAdd binBits
    pointwise [k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57,
      k0_pay58, k0_pay59, load_corr]

end Cert.KernelIdeal.Ghm

end
-- ==== Proof.KernelIdeal.PiecesFirst.lean ====
/-
What the first point's stores leave in the three running buffers, which it zeroes before it adds the window's share of each bin.
-/
module

public import proofs.«01_k».proof.Proof.KernelIdeal.PiecesD
public import Idealize.ShloMosaic.Lib.Pointwise
public import Idealize.ShloMosaic.Lib.WritesUnit
public import Idealize.ShloMosaic.Lib.Pipeline.ValueKit

@[expose] public section

set_option maxRecDepth 16384

noncomputable section

namespace Cert.KernelIdeal.Ghm

open Idealize.ShloMosaic Idealize.ShloMosaic.TcCoe
open Idealize.SL.Sem
open Idealize.ShloMosaic.Pipeline (Dat)
open Cert.KernelIdeal Cert.KernelIdeal.Gen

/-- The first `b` bins' rows hold the window's share, the others nothing. -/
def InvS (ce wb : FVec Ideal S64x512 .f32) (v : View sig .tc .vmem S240x512 .f32) (b : ℕ)
    (L : List (View.Piece (Elt Ideal) S240x512 .f32)) : Prop :=
  ∀ y : S240x512.Idx, v.read (Elt Ideal) (v.writes (Elt Ideal) v.junk L) y
    = if (y 0).val < 8 * b then GS ce wb (fun _ => 0) y else 0

/-- A store of zeros over a whole buffer reads back as zeros. -/
theorem whole_zero {R C : ℕ} (v : View sig .tc .vmem ⟨2, ![R, C]⟩ .f32)
    (inb : ∀ a, (![0, 0] : Fin 2 → ℕ) a + (![R, C] : Fin 2 → ℕ) a ≤ (![R, C] : Fin 2 → ℕ) a)
    (P : (Rect.unit (s := ⟨2, ![R, C]⟩) ![0, 0] ![R, C] inb).shape.Idx → EReal) (hP : ∀ x, P x = 0)
    (y : (⟨2, ![R, C]⟩ : Shape).Idx) :
    v.read (Elt Ideal) (v.writes (Elt Ideal) v.junk [⟨Rect.unit (s := ⟨2, ![R, C]⟩) ![0, 0] ![R, C] inb, P⟩]) y = 0 := by
  have e : (Rect.unit (s := ⟨2, ![R, C]⟩) ![0, 0] ![R, C] inb).emb (ix2 (y 0) (y 1)) = y := by
    funext a
    refine Fin.ext ?_
    fin_cases a <;> simp [Rect.emb, Rect.unit, ix2]
  rw [← e, View.read_writes_cons_emb]
  exact hP _

/-- A store of zeros over the whole buffer leaves nothing in any bin's rows. -/
theorem first_zero (ce wb : FVec Ideal S64x512 .f32) (v : View sig .tc .vmem S240x512 .f32)
    (inb : ∀ a, (![0, 0] : Fin 2 → ℕ) a + S240x512.size a ≤ S240x512.size a) (P : S240x512.Idx → EReal) (hP : ∀ y, P y = 0) :
    InvS ce wb v 0 [⟨Rect.unit ![0, 0] S240x512.size inb, P⟩] := by
  intro y
  rw [if_neg (by omega)]
  exact whole_zero v inb P hP y

/-- A store to a bin's rows of what they hold and the window's share takes the buffer from `b` bins to the next. -/
theorem first_step {ce wb : FVec Ideal S64x512 .f32} {v : View sig .tc .vmem S240x512 .f32} {b o : ℕ}
    {L : List (View.Piece (Elt Ideal) S240x512 .f32)}
    {inb : ∀ a, (![o, 0] : Fin 2 → ℕ) a + (![8, 512] : Fin 2 → ℕ) a ≤ S240x512.size a} {P : S8x512.Idx → EReal}
    (hP : ∀ (r : Fin 8) (l : Fin 512), P (ix2 r l)
      = v.readCov L (Rect.unit (s := S240x512) ![o, 0] ![8, 512] inb).toLoadRect (ix2 r l)
        + binAdd ce wb (Ideal.ofBits .f32 (binBits ⟨o / 8, by have := inb 0; simp at this; omega⟩)) r l)
    (ho : o = 8 * b) (hL : InvS ce wb v b L) :
    InvS ce wb v (b + 1) (⟨Rect.unit (s := S240x512) ![o, 0] ![8, 512] inb, P⟩ :: L) := by
  intro y
  by_cases hy : (y 0).val < o ∨ o + 8 ≤ (y 0).val
  · rw [View.read_writes_cons_rows_of_not_mem v _ inb P L y rfl rfl hy, hL y]
    have e : ((y 0).val < 8 * b ↔ (y 0).val < 8 * (b + 1)) := by omega
    simp only [e]
  · obtain ⟨r, l, rfl⟩ : ∃ (r : Fin 8) (l : Fin 512), y = (Rect.unit (s := S240x512) ![o, 0] ![8, 512] inb).emb (ix2 r l) := by
      refine ⟨⟨(y 0).val - o, by omega⟩, y 1, ?_⟩
      funext a
      refine Fin.ext ?_
      fin_cases a
      · simp [Rect.emb, Rect.unit, ix2]; omega
      · simp [Rect.emb, Rect.unit, ix2]
    have e0 : (((Rect.unit (s := S240x512) ![o, 0] ![8, 512] inb).emb (ix2 r l)) 0).val = o + r.val := by
      simp [Rect.emb, Rect.unit, ix2]
    have hr := r.isLt
    rw [View.read_writes_cons_emb, hP, GS_emb _ _ _ _ (by omega), if_pos (by rw [e0]; omega)]
    refine congrArg (· + _) ?_
    have := hL ((Rect.unit (s := S240x512) ![o, 0] ![8, 512] inb).emb (ix2 r l))
    rw [if_neg (by rw [e0]; omega)] at this
    exact this

/-- The first `b` bins' rows hold the window's corrections, the others nothing. -/
def InvD (wb hb : FVec Ideal S64x512 .f32) (dm : IVec S64x512 1) (v : View sig .tc .vmem S32x512 .f32) (b : ℕ)
    (L : List (View.Piece (Elt Ideal) S32x512 .f32)) : Prop :=
  ∀ y : S32x512.Idx, v.read (Elt Ideal) (v.writes (Elt Ideal) v.junk L) y
    = if (y 0).val < b then GD wb hb dm (fun _ => 0) y else 0

/-- A store of zeros over the whole buffer leaves nothing in any bin's row. -/
theorem first_zeroD (wb hb : FVec Ideal S64x512 .f32) (dm : IVec S64x512 1) (v : View sig .tc .vmem S32x512 .f32)
    (inb : ∀ a, (![0, 0] : Fin 2 → ℕ) a + S32x512.size a ≤ S32x512.size a) (P : S32x512.Idx → EReal) (hP : ∀ y, P y = 0) :
    InvD wb hb dm v 0 [⟨Rect.unit ![0, 0] S32x512.size inb, P⟩] := by
  intro y
  rw [if_neg (by omega)]
  exact whole_zero v inb P hP y

/-- A store to a bin's row of what it holds and the window's correction takes the buffer from `b` bins to the next. -/
theorem first_stepD {wb hb : FVec Ideal S64x512 .f32} {dm : IVec S64x512 1} {v : View sig .tc .vmem S32x512 .f32} {b o : ℕ}
    {L : List (View.Piece (Elt Ideal) S32x512 .f32)}
    {inb : ∀ a, (![o, 0] : Fin 2 → ℕ) a + (![1, 512] : Fin 2 → ℕ) a ≤ S32x512.size a} {P : S1x512.Idx → EReal}
    (hP : ∀ l : Fin 512, P (ix2 0 l)
      = v.readCov L (Rect.unit (s := S32x512) ![o, 0] ![1, 512] inb).toLoadRect (ix2 0 l)
        + corrAdd wb hb dm (Ideal.ofBits .f32 (binBits ⟨o, by have := inb 0; simp at this; omega⟩)) l)
    (ho : o = b) (hL : InvD wb hb dm v b L) :
    InvD wb hb dm v (b + 1) (⟨Rect.unit (s := S32x512) ![o, 0] ![1, 512] inb, P⟩ :: L) := by
  intro y
  by_cases hy : (y 0).val < o ∨ o + 1 ≤ (y 0).val
  · rw [View.read_writes_cons_rows_of_not_mem v _ inb P L y rfl rfl hy, hL y]
    have e : ((y 0).val < b ↔ (y 0).val < b + 1) := by omega
    simp only [e]
  · obtain ⟨l, rfl⟩ : ∃ l : Fin 512, y = (Rect.unit (s := S32x512) ![o, 0] ![1, 512] inb).emb (ix2 0 l) := by
      refine ⟨y 1, ?_⟩
      funext a
      refine Fin.ext ?_
      fin_cases a
      · simp [Rect.emb, Rect.unit, ix2]; omega
      · simp [Rect.emb, Rect.unit, ix2]
    have e0 : (((Rect.unit (s := S32x512) ![o, 0] ![1, 512] inb).emb (ix2 0 l)) 0).val = o := by
      simp [Rect.emb, Rect.unit, ix2]
    rw [View.read_writes_cons_emb, hP, GD_emb, if_pos (by rw [e0]; omega)]
    refine congrArg (· + _) ?_
    have := hL ((Rect.unit (s := S32x512) ![o, 0] ![1, 512] inb).emb (ix2 0 l))
    rw [if_neg (by rw [e0]; omega)] at this
    exact this

/-- The first point's stores into the buffer of sums: every bin's rows get the window's share. -/
theorem first_S (c : Dev nD) {a1} (h1 : Memref.IsWhole a1) {a2} (h2 : Memref.IsWhole a2) (a4 : Memref sig .tc .vmem S240x512 .f32)
    (x0 : Vec Ideal S1x19x64x512 .f32) (x1 : Vec Ideal S1x64x512 .i32) :
    InvS (ceB x0 x1) (wbB x0 x1) a4.view 30 (runFirst.sl.HS0_31 (F := Ideal) c a1 h1 a2 h2 a4 x0 x1) := by
  iterate 30
    refine first_step ?_ rfl ?_
    · intro r l
      simp only [runFirst.sl.v1112, runFirst.sl.v330, runFirst.sl.r_57, runFirst.sl.v1180, runFirst.sl.v636, runFirst.sl.v1044,
      runFirst.sl.v1282, runFirst.sl.v500, runFirst.sl.v432, runFirst.sl.v738, runFirst.sl.cst_367, runFirst.sl.v976,
      runFirst.sl.v296, runFirst.sl.r_47, runFirst.sl.v874, runFirst.sl.r_27, runFirst.sl.v364, runFirst.sl.cst_189,
      runFirst.sl.v942, runFirst.sl.v534, runFirst.sl.r_34, runFirst.sl.v466, runFirst.sl.v772, runFirst.sl.v840,
      runFirst.sl.r_45, runFirst.sl.r_55, runFirst.sl.v1146, runFirst.sl.v1214, runFirst.sl.v1078, runFirst.sl.v568,
      runFirst.sl.r_38, runFirst.sl.v670, runFirst.sl.v1248, runFirst.sl.v602, runFirst.sl.v704, runFirst.sl.r_40,
      runFirst.sl.r_41, runFirst.sl.r_29, runFirst.sl.v398, runFirst.sl.v1010, runFirst.sl.r_51, runFirst.sl.r_52,
      runFirst.sl.v908, runFirst.sl.v806, first_ce, first_wb]
      unfold binAdd fold8 binBits
      pointwise [k0_pay229, k0_pay230, k0_pay233, k0_pay234, k0_pay236, k0_pay237, k0_pay239, k0_pay240, k0_pay241, k0_pay243,
      k0_pay244, k0_pay249, k0_pay250, k0_pay252, k0_pay253, k0_pay255, k0_pay256, k0_pay257, k0_pay259, k0_pay260,
      k0_pay262, k0_pay263, k0_pay267, k0_pay268, k0_pay270, k0_pay271, k0_pay273, k0_pay274, k0_pay275, k0_pay276,
      k0_pay277, k0_pay279, k0_pay280, k0_pay283, k0_pay284, k0_pay287, k0_pay288, k0_pay290, k0_pay291, k0_pay292,
      k0_pay294, k0_pay295, k0_pay296, k0_pay298, k0_pay299, k0_pay303, k0_pay304, k0_pay306, k0_pay307, k0_pay309,
      k0_pay310, k0_pay311, k0_pay312, k0_pay313, k0_pay315, k0_pay316, k0_pay318, k0_pay319, k0_pay322, k0_pay323,
      k0_pay325, k0_pay326, k0_pay328, k0_pay329, k0_pay330, k0_pay332, k0_pay333, k0_pay337, k0_pay338, k0_pay341,
      k0_pay342]
  refine first_zero _ _ _ _ _ fun y => ?_
  pointwise [k0_pay180]

/-- The first point's stores into the buffer of counts: every bin's rows get the window's share. -/
theorem first_N (c : Dev nD) {a1} (h1 : Memref.IsWhole a1) {a2} (h2 : Memref.IsWhole a2) (a4 : Memref sig .tc .vmem S240x512 .f32)
    (x0 : Vec Ideal S1x19x64x512 .f32) (x1 : Vec Ideal S1x64x512 .i32) :
    InvS (fun _ => 1) (wbB x0 x1) a4.view 30 (runFirst.sl.HS1_31 (F := Ideal) c a1 h1 a2 h2 a4 x0 x1) := by
  iterate 30
    refine first_step ?_ rfl ?_
    · intro r l
      simp only [runFirst.sl.r_55, runFirst.sl.v1162, runFirst.sl.r_43, runFirst.sl.v788, runFirst.sl.v448, runFirst.sl.r_30,
      runFirst.sl.r_31, runFirst.sl.r_50, runFirst.sl.v1026, runFirst.sl.r_39, runFirst.sl.v720, runFirst.sl.r_32,
      runFirst.sl.v482, runFirst.sl.cst_367, runFirst.sl.v992, runFirst.sl.r_33, runFirst.sl.v550, runFirst.sl.r_44,
      runFirst.sl.v856, runFirst.sl.r_26, runFirst.sl.v312, runFirst.sl.r_28, runFirst.sl.v414, runFirst.sl.v652,
      runFirst.sl.r_38, runFirst.sl.v686, runFirst.sl.v1298, runFirst.sl.v924, runFirst.sl.r_48, runFirst.sl.r_49,
      runFirst.sl.r_42, runFirst.sl.v754, runFirst.sl.v1094, runFirst.sl.r_54, runFirst.sl.v618, runFirst.sl.r_36,
      runFirst.sl.r_37, runFirst.sl.r_60, runFirst.sl.v1264, runFirst.sl.r_53, runFirst.sl.v1060, runFirst.sl.v1230,
      runFirst.sl.r_58, runFirst.sl.r_59, runFirst.sl.r_46, runFirst.sl.v890, runFirst.sl.v346, runFirst.sl.r_27,
      runFirst.sl.v380, runFirst.sl.v822, runFirst.sl.r_35, runFirst.sl.v584, runFirst.sl.v516, runFirst.sl.r_56,
      runFirst.sl.v1196, runFirst.sl.v958, runFirst.sl.v1128, first_wb]
      unfold binAdd fold8 binBits
      pointwise [k0_pay228, k0_pay229, k0_pay231, k0_pay232, k0_pay233, k0_pay235, k0_pay236, k0_pay238, k0_pay239, k0_pay242,
      k0_pay243, k0_pay245, k0_pay246, k0_pay247, k0_pay248, k0_pay249, k0_pay251, k0_pay252, k0_pay254, k0_pay255,
      k0_pay258, k0_pay259, k0_pay261, k0_pay262, k0_pay264, k0_pay265, k0_pay266, k0_pay267, k0_pay269, k0_pay270,
      k0_pay272, k0_pay273, k0_pay278, k0_pay279, k0_pay281, k0_pay282, k0_pay283, k0_pay285, k0_pay286, k0_pay287,
      k0_pay289, k0_pay290, k0_pay293, k0_pay294, k0_pay297, k0_pay298, k0_pay300, k0_pay301, k0_pay302, k0_pay303,
      k0_pay305, k0_pay306, k0_pay308, k0_pay309, k0_pay314, k0_pay315, k0_pay317, k0_pay318, k0_pay320, k0_pay321,
      k0_pay322, k0_pay324, k0_pay325, k0_pay327, k0_pay328, k0_pay331, k0_pay332, k0_pay334, k0_pay335, k0_pay336,
      k0_pay337, k0_pay339, k0_pay340, k0_pay341, k0_pay343]
  refine first_zero _ _ _ _ _ fun y => ?_
  pointwise [k0_pay181]

variable (m : (ℓ : Loc nD τ sig) → Buf (Elt Ideal) ℓ)

/-- The first point's stores into the buffer of corrections, if it makes any: each bin's row gets the window's correction. -/
theorem first_D (c : Dev nD) (t : Fin cfg0.N) (h0 h2) :
    (Scalar.cmpi .ne (runFirst.sl.v1322 (F := Ideal) c (stg0 t) (whole0 t) (stg1 t) (whole1 t) (iblk m c 0 t) (iblk m c 1 t)) 0#32 = 1#1 →
      InvD (wbB (iblk m c 0 t) (iblk m c 1 t)) (hbB (iblk m c 0 t) (iblk m c 1 t))
        (k0_pay344 (wbB (iblk m c 0 t) (iblk m c 1 t)) (hbB (iblk m c 0 t) (iblk m c 1 t))) accD.view 30 (atFirst m c t h0 h2).2.2.1) ∧
    (¬Scalar.cmpi .ne (runFirst.sl.v1322 (F := Ideal) c (stg0 t) (whole0 t) (stg1 t) (whole1 t) (iblk m c 0 t) (iblk m c 1 t)) 0#32 = 1#1 →
      InvD (wbB (iblk m c 0 t) (iblk m c 1 t)) (hbB (iblk m c 0 t) (iblk m c 1 t))
        (k0_pay344 (wbB (iblk m c 0 t) (iblk m c 1 t)) (hbB (iblk m c 0 t) (iblk m c 1 t))) accD.view 0 (atFirst m c t h0 h2).2.2.1) := by
  unfold atFirst runFirst
  dsimp only
  refine ⟨fun hc => ?_, fun hc => ?_⟩
  · rw [dif_pos hc]
    clear hc
    iterate 30
      refine first_stepD ?_ rfl ?_
      · intro l
        simp only [runFirst.sl.cst_189, runFirst.sl.r_62, runFirst.sl.r_63, runFirst.sl.r_64, runFirst.sl.r_65, runFirst.sl.r_66,
      runFirst.sl.r_67, runFirst.sl.r_68, runFirst.sl.r_69, runFirst.sl.r_70, runFirst.sl.r_71, runFirst.sl.r_72,
      runFirst.sl.r_73, runFirst.sl.r_74, runFirst.sl.r_75, runFirst.sl.r_76, runFirst.sl.r_77, runFirst.sl.r_78,
      runFirst.sl.r_79, runFirst.sl.r_80, runFirst.sl.r_81, runFirst.sl.r_82, runFirst.sl.r_83, runFirst.sl.v1339,
      runFirst.sl.v1359, runFirst.sl.v1379, runFirst.sl.v1399, runFirst.sl.v1419, runFirst.sl.v1439,
      runFirst.sl.v1459, runFirst.sl.v1479, runFirst.sl.v1499, runFirst.sl.v1519, runFirst.sl.v1539,
      runFirst.sl.v1559, runFirst.sl.v1579, runFirst.sl.v1599, runFirst.sl.v1619, runFirst.sl.v1639,
      runFirst.sl.v1659, runFirst.sl.v1679, runFirst.sl.v1699, runFirst.sl.v1719, runFirst.sl.v1739,
      runFirst.sl.v1759, runFirst.sl.v1779, runFirst.sl.v1799, runFirst.sl.v1819, runFirst.sl.v1839,
      runFirst.sl.v1859, runFirst.sl.v1879, runFirst.sl.v1899, runFirst.sl.v1919, first_wb, first_hb, runFirst.sl.r_61]
        unfold corrAdd binBits
        pointwise [k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57,
      k0_pay58, k0_pay59]
    refine first_zeroD _ _ _ _ _ _ fun y => ?_
    pointwise [k0_pay182]
  · rw [dif_neg hc]
    refine first_zeroD _ _ _ _ _ _ fun y => ?_
    pointwise [k0_pay182]

end Cert.KernelIdeal.Ghm

end
-- ==== Proof.KernelIdeal.After.lean ====
/-
What the three running buffers hold after each point: at a bin's rows, the shares of the windows so far, added up.
-/
module

public import proofs.«01_k».proof.Proof.KernelIdeal.PiecesFirst
public import Idealize.ShloMosaic.Lib.Pointwise
public import Idealize.ShloMosaic.Lib.Pipeline.ValueKit

@[expose] public section

set_option maxRecDepth 16384

noncomputable section

namespace Cert.KernelIdeal.Ghm

open Idealize.ShloMosaic Idealize.ShloMosaic.TcCoe
open Idealize.SL.Sem
open Idealize.ShloMosaic.Pipeline (Dat)
open Cert.KernelIdeal Cert.KernelIdeal.Gen

variable (m : (ℓ : Loc nD τ sig) → Buf (Elt Ideal) ℓ)

/-- The losses of a point's window, -/
abbrev ceP (c : Dev nD) (t : Fin cfg0.N) : FVec Ideal S64x512 .f32 := ceB (iblk m c 0 t) (iblk m c 1 t)
/-- its pixels' bins for the weights, -/
abbrev wbP (c : Dev nD) (t : Fin cfg0.N) : FVec Ideal S64x512 .f32 := wbB (iblk m c 0 t) (iblk m c 1 t)
/-- their bins for the counts, -/
abbrev hbP (c : Dev nD) (t : Fin cfg0.N) : FVec Ideal S64x512 .f32 := hbB (iblk m c 0 t) (iblk m c 1 t)
/-- and where the two differ. -/
abbrev dmP (c : Dev nD) (t : Fin cfg0.N) : IVec S64x512 1 := k0_pay344 (wbP m c t) (hbP m c t)

/-! ## A window without a pixel whose bins differ corrects nothing -/

/-- The number of pixels marked in a window. -/
theorem marked_eq (wb hb : FVec Ideal S64x512 .f32) :
    k0_pay345 wb hb = ∑ x : Fin 64, ∑ y : Fin 512, FloatOps.sitofp (F := Ideal) .f32 (BitVec.setWidth 32 (k0_pay344 wb hb (ix2 x y))) := by
  pointwise [k0_pay345]

/-- A bit counts as one or nothing. -/
theorem bit_nonneg (b : BitVec 1) : (0 : EReal) ≤ FloatOps.sitofp (F := Ideal) .f32 (BitVec.setWidth 32 b) ∧
    (FloatOps.sitofp (F := Ideal) .f32 (BitVec.setWidth 32 b) = (0 : EReal) → b = 0#1) := by
  obtain rfl | rfl : b = 0#1 ∨ b = 1#1 := by
    revert b; decide
  · refine ⟨?_, fun _ => rfl⟩
    show (0 : EReal) ≤ (((BitVec.setWidth 32 0#1).toInt : ℝ) : EReal)
    simp
  · refine ⟨?_, fun h => ?_⟩
    · show (0 : EReal) ≤ (((BitVec.setWidth 32 1#1).toInt : ℝ) : EReal)
      have : (BitVec.setWidth 32 1#1).toInt = 1 := by decide
      rw [this]; norm_num
    · exfalso
      have h' : (((BitVec.setWidth 32 1#1).toInt : ℝ) : EReal) = 0 := h
      have : (BitVec.setWidth 32 1#1).toInt = 1 := by decide
      rw [this] at h'
      norm_num at h'

/-- The body's test of a number that exceeds zero succeeds. -/
theorem cond_of_pos (n : Ideal .f32) (hn : (0 : EReal) < n) :
    Scalar.cmpi .ne (Scalar.extui (Scalar.cmpf (F := Ideal) .ogt n (FloatOps.ofBits .f32 0#32))) 0#32 = 1#1 := by
  have hc : Scalar.cmpf (F := Ideal) .ogt n (FloatOps.ofBits .f32 0#32) = 1#1 := by
    show BitVec.ofBool (decide (Ideal.ofBits .f32 0#32 < n)) = 1#1
    rw [show Ideal.ofBits .f32 0#32 = 0 from Ideal.ofBits_zero_f32, decide_eq_true hn]
    rfl
  rw [hc]
  decide

/-- If the number of marked pixels does not exceed zero, no pixel is marked, -/
theorem unmarked (wb hb : FVec Ideal S64x512 .f32)
    (h : ¬Scalar.cmpi .ne (Scalar.extui (Scalar.cmpf (F := Ideal) .ogt (k0_pay345 wb hb) (FloatOps.ofBits .f32 0#32))) 0#32 = 1#1)
    (q : Fin 64) (l : Fin 512) : k0_pay344 wb hb (ix2 q l) = 0#1 := by
  by_contra hne
  apply h
  have hpos : (0 : EReal) < k0_pay345 wb hb := by
    rw [marked_eq]
    refine lt_of_le_of_ne (Finset.sum_nonneg fun x _ => Finset.sum_nonneg fun y _ => (bit_nonneg _).1) fun he => hne ?_
    have h1 := (Finset.sum_eq_zero_iff_of_nonneg fun x _ => Finset.sum_nonneg fun y _ => (bit_nonneg _).1).mp he.symm q (Finset.mem_univ _)
    have h2 := (Finset.sum_eq_zero_iff_of_nonneg fun y _ => (bit_nonneg _).1).mp h1 l (Finset.mem_univ _)
    exact (bit_nonneg _).2 h2
  exact cond_of_pos _ hpos

/-- and the window's correction is nothing. -/
theorem corrAdd_zero (wb hb : FVec Ideal S64x512 .f32)
    (h : ¬Scalar.cmpi .ne (Scalar.extui (Scalar.cmpf (F := Ideal) .ogt (k0_pay345 wb hb) (FloatOps.ofBits .f32 0#32))) 0#32 = 1#1)
    (b : EReal) (l : Fin 512) : corrAdd wb hb (k0_pay344 wb hb) b l = 0 := by
  unfold corrAdd
  refine Finset.sum_eq_zero fun q _ => ?_
  rw [unmarked wb hb h q l]
  have e : ∀ x : BitVec 1, IntOp.andi 0#1 x = 0#1 := by decide
  rw [e, e]
  show (0 : EReal) - 0 = 0
  simp

/-! ## The three kinds of point -/

/-- A window without a marked pixel leaves the corrections as they were. -/
theorem GD_zero (wb hb : FVec Ideal S64x512 .f32)
    (h : ¬Scalar.cmpi .ne (Scalar.extui (Scalar.cmpf (F := Ideal) .ogt (k0_pay345 wb hb) (FloatOps.ofBits .f32 0#32))) 0#32 = 1#1)
    (s : Vec Ideal S32x512 .f32) (y : S32x512.Idx) : GD wb hb (k0_pay344 wb hb) s y = s y :=
  (congrArg (s y + ·) (corrAdd_zero wb hb h _ _)).trans (add_zero _)

/-- The pieces are rows `b - 1`, …, `0`, the newest first. -/
def RowsDown : ℕ → List (View.Piece (Elt Ideal) S32x512 .f32) → Prop
  | 0, _ => True
  | _ + 1, [] => False
  | b + 1, p :: L => (∃ inb, p.1 = Rect.unit (s := S32x512) ![b, 0] ![1, 512] inb) ∧ RowsDown b L

/-- Such pieces reach every place of the first `b` rows. -/
theorem cover_of_rowsDown : ∀ (b : ℕ) (L : List (View.Piece (Elt Ideal) S32x512 .f32)), RowsDown b L →
    ∀ y : S32x512.Idx, (y 0).val < b → ∃ p ∈ L, y ∈ p.1.set
  | 0, _, _, y, h => absurd h (Nat.not_lt_zero _)
  | _ + 1, [], h, _, _ => h.elim
  | b + 1, p :: L, ⟨⟨inb, hp⟩, hL⟩, y, h => by
    by_cases hy : (y 0).val = b
    · refine ⟨p, List.mem_cons_self, ?_⟩
      rw [hp]
      have e : (Rect.unit (s := S32x512) ![b, 0] ![1, 512] inb).emb (ix2 0 (y 1)) = y := by
        funext a
        refine Fin.ext ?_
        fin_cases a
        · simp [Rect.emb, Rect.unit, ix2]; omega
        · simp [Rect.emb, Rect.unit, ix2]
      rw [← e]
      exact (Rect.unit (s := S32x512) ![b, 0] ![1, 512] inb).idx_mem (ix2 0 (y 1))
    · obtain ⟨q, hq, hm⟩ := cover_of_rowsDown b L hL y (by omega)
      exact ⟨q, List.mem_cons_of_mem _ hq, hm⟩

/-- The first point's stores into the sums' buffer -/
theorem atFirst_S (c : Dev nD) (t : Fin cfg0.N) (h0 h2) : (atFirst (F := Ideal) m c t h0 h2).1
    = runFirst.sl.HS0_31 c (stg0 t) (whole0 t) (stg1 t) (whole1 t) accS (iblk m c 0 t) (iblk m c 1 t) := by
  unfold atFirst runFirst
  rfl
/-- and into the counts' buffer. -/
theorem atFirst_N (c : Dev nD) (t : Fin cfg0.N) (h0 h2) : (atFirst (F := Ideal) m c t h0 h2).2.1
    = runFirst.sl.HS1_31 c (stg0 t) (whole0 t) (stg1 t) (whole1 t) accN (iblk m c 0 t) (iblk m c 1 t) := by
  unfold atFirst runFirst
  rfl

/-- After the first point the sums' buffer holds the window's shares, -/
theorem afterFirst_S (c : Dev nD) (t : Fin cfg0.N) (h0 h2) (y : S240x512.Idx) :
    (afterFirst (F := Ideal) m c t h0 h2).1 y = GS (ceP m c t) (wbP m c t) (fun _ => 0) y := by
  have := first_S c (whole0 t) (whole1 t) accS (iblk m c 0 t) (iblk m c 1 t) y
  rw [if_pos (by have := (y 0).isLt; simp at this; omega)] at this
  unfold afterFirst
  dsimp only
  rw [atFirst_S]
  exact this
/-- the counts' buffer too, -/
theorem afterFirst_N (c : Dev nD) (t : Fin cfg0.N) (h0 h2) (y : S240x512.Idx) :
    (afterFirst (F := Ideal) m c t h0 h2).2.1 y = GS (fun _ => 1) (wbP m c t) (fun _ => 0) y := by
  have := first_N c (whole0 t) (whole1 t) accN (iblk m c 0 t) (iblk m c 1 t) y
  rw [if_pos (by have := (y 0).isLt; simp at this; omega)] at this
  unfold afterFirst
  dsimp only
  rw [atFirst_N]
  exact this
/-- and the corrections' buffer the window's corrections. -/
theorem afterFirst_D (c : Dev nD) (t : Fin cfg0.N) (h0 h2) (y : S32x512.Idx) (hy : (y 0).val < 30) :
    (afterFirst (F := Ideal) m c t h0 h2).2.2 y = GD (wbP m c t) (hbP m c t) (dmP m c t) (fun _ => 0) y := by
  have key := first_D m c t h0 h2
  by_cases hc : Scalar.cmpi .ne (runFirst.sl.v1322 (F := Ideal) c (stg0 t) (whole0 t) (stg1 t) (whole1 t) (iblk m c 0 t) (iblk m c 1 t)) 0#32 = 1#1
  · have := key.1 hc y
    rw [if_pos hy] at this
    unfold afterFirst
    dsimp only
    exact this
  · have := key.2 hc y
    rw [if_neg (Nat.not_lt_zero _)] at this
    unfold afterFirst
    dsimp only
    refine Eq.trans this ?_
    refine (GD_zero (wbP m c t) (hbP m c t) (fun hn => hc ?_) (fun _ => 0) y).symm
    rw [← hn, runFirst.sl.v1322, runFirst.sl.v1321, first_wb, first_hb, runFirst.sl.cst_189]

/-- The stores into the sums' buffer -/
theorem atMid_S (c : Dev nD) (t : Fin cfg0.N) (h0 h2) (s0 s1 s2) : (atMid (F := Ideal) m c t h0 h2 s0 s1 s2).1
    = runMid.sl.HS0_30 c (stg0 t) (whole0 t) (stg1 t) (whole1 t) accS (Memref.isWhole_whole _) (iblk m c 0 t) (iblk m c 1 t) s0 := by
  unfold atMid runMid
  rfl
/-- and into the counts' buffer. -/
theorem atMid_N (c : Dev nD) (t : Fin cfg0.N) (h0 h2) (s0 s1 s2) : (atMid (F := Ideal) m c t h0 h2 s0 s1 s2).2.1
    = runMid.sl.HS1_30 c (stg0 t) (whole0 t) (stg1 t) (whole1 t) accN (Memref.isWhole_whole _) (iblk m c 0 t) (iblk m c 1 t) s1 := by
  unfold atMid runMid
  rfl

/-- At a middle point the sums' buffer gets the window's shares, -/
theorem afterMid_S (c : Dev nD) (t : Fin cfg0.N) (h0 h2) (s : Carry Ideal) (y : S240x512.Idx) :
    (afterMid m c t h0 h2 s).1 y = GS (ceP m c t) (wbP m c t) s.1 y := by
  have hL := mid_S c (whole0 t) (whole1 t) (a4 := accS) (Memref.isWhole_whole _) (iblk m c 0 t) (iblk m c 1 t) s.1
  rw [← atMid_S m c t h0 h2 s.1 s.2.1 s.2.2] at hL
  unfold afterMid
  dsimp only
  exact View.read_writes_apply_of_pieces _ _ _ _ hL y
    (cover_mid_S m c t h0 h2 s.1 s.2.1 s.2.2 y)
/-- the counts' buffer too, -/
theorem afterMid_N (c : Dev nD) (t : Fin cfg0.N) (h0 h2) (s : Carry Ideal) (y : S240x512.Idx) :
    (afterMid m c t h0 h2 s).2.1 y = GS (fun _ => 1) (wbP m c t) s.2.1 y := by
  have hL := mid_N c (whole0 t) (whole1 t) (a4 := accN) (Memref.isWhole_whole _) (iblk m c 0 t) (iblk m c 1 t) s.2.1
  rw [← atMid_N m c t h0 h2 s.1 s.2.1 s.2.2] at hL
  unfold afterMid
  dsimp only
  exact View.read_writes_apply_of_pieces _ _ _ _ hL y
    (cover_mid_N m c t h0 h2 s.1 s.2.1 s.2.2 y)
/-- and the corrections' buffer the window's corrections. -/
theorem afterMid_D (c : Dev nD) (t : Fin cfg0.N) (h0 h2) (s : Carry Ideal) (y : S32x512.Idx) (hy : (y 0).val < 30) :
    (afterMid m c t h0 h2 s).2.2 y = GD (wbP m c t) (hbP m c t) (dmP m c t) s.2.2 y := by
  by_cases hc : Scalar.cmpi .ne (runMid.sl.v1322 (F := Ideal) c (stg0 t) (whole0 t) (stg1 t) (whole1 t) (iblk m c 0 t) (iblk m c 1 t)) 0#32 = 1#1
  · unfold afterMid
    dsimp only
    refine View.read_writes_apply_of_pieces _ _ _ _ (mid_D m c t h0 h2 s.1 s.2.1 s.2.2) y (cover_of_rowsDown 30 _ ?_ y hy)
    unfold atMid runMid
    dsimp only
    rw [dif_pos hc]
    iterate 30 refine ⟨⟨by decide, rfl⟩, ?_⟩
    trivial
  · have hL : (atMid (F := Ideal) m c t h0 h2 s.1 s.2.1 s.2.2).2.2.1 = [] := by
      unfold atMid runMid
      dsimp only
      rw [dif_neg hc]
    have : (afterMid m c t h0 h2 s).2.2 y = s.2.2 y := by
      unfold afterMid
      dsimp only
      rw [hL, View.writes_nil]
      exact congrFun (Memref.IsWhole.read_unread (Memref.isWhole_whole cc0_scratch2) s.2.2) y
    rw [this]
    refine (GD_zero _ _ (fun hn => hc ?_) _ y).symm
    rw [← hn, runMid.sl.v1322, runMid.sl.v1321, mid_wb, mid_hb, runMid.sl.cst_189]

/-- The stores into the sums' buffer -/
theorem atLast_S (c : Dev nD) (t : Fin cfg0.N) (h0 h2) (s0 s1 s2) : (atLast (F := Ideal) m c t h0 h2 s0 s1 s2).2.1
    = runLast.sl.HS0_30 c (stg0 t) (whole0 t) (stg1 t) (whole1 t) accS (Memref.isWhole_whole _) (iblk m c 0 t) (iblk m c 1 t) s0 := by
  unfold atLast runLast
  rfl
/-- and into the counts' buffer. -/
theorem atLast_N (c : Dev nD) (t : Fin cfg0.N) (h0 h2) (s0 s1 s2) : (atLast (F := Ideal) m c t h0 h2 s0 s1 s2).2.2.1
    = runLast.sl.HS1_30 c (stg0 t) (whole0 t) (stg1 t) (whole1 t) accN (Memref.isWhole_whole _) (iblk m c 0 t) (iblk m c 1 t) s1 := by
  unfold atLast runLast
  rfl

/-- At the last point the sums' buffer gets the window's shares, -/
theorem afterLast_S (c : Dev nD) (t : Fin cfg0.N) (h0 h2) (s : Carry Ideal) (y : S240x512.Idx) :
    (afterLast m c t h0 h2 s).1 y = GS (ceP m c t) (wbP m c t) s.1 y := by
  have hL := last_S c (whole0 t) (whole1 t) (a4 := accS) (Memref.isWhole_whole _) (iblk m c 0 t) (iblk m c 1 t) s.1
  rw [← atLast_S m c t h0 h2 s.1 s.2.1 s.2.2] at hL
  unfold afterLast
  dsimp only
  exact View.read_writes_apply_of_pieces _ _ _ _ hL y
    (cover_last_S m c t h0 h2 s.1 s.2.1 s.2.2 y)
/-- the counts' buffer too, -/
theorem afterLast_N (c : Dev nD) (t : Fin cfg0.N) (h0 h2) (s : Carry Ideal) (y : S240x512.Idx) :
    (afterLast m c t h0 h2 s).2.1 y = GS (fun _ => 1) (wbP m c t) s.2.1 y := by
  have hL := last_N c (whole0 t) (whole1 t) (a4 := accN) (Memref.isWhole_whole _) (iblk m c 0 t) (iblk m c 1 t) s.2.1
  rw [← atLast_N m c t h0 h2 s.1 s.2.1 s.2.2] at hL
  unfold afterLast
  dsimp only
  exact View.read_writes_apply_of_pieces _ _ _ _ hL y
    (cover_last_N m c t h0 h2 s.1 s.2.1 s.2.2 y)
/-- and the corrections' buffer the window's corrections. -/
theorem afterLast_D (c : Dev nD) (t : Fin cfg0.N) (h0 h2) (s : Carry Ideal) (y : S32x512.Idx) (hy : (y 0).val < 30) :
    (afterLast m c t h0 h2 s).2.2 y = GD (wbP m c t) (hbP m c t) (dmP m c t) s.2.2 y := by
  by_cases hc : Scalar.cmpi .ne (runLast.sl.v1322 (F := Ideal) c (stg0 t) (whole0 t) (stg1 t) (whole1 t) (iblk m c 0 t) (iblk m c 1 t)) 0#32 = 1#1
  · unfold afterLast
    dsimp only
    refine View.read_writes_apply_of_pieces _ _ _ _ (last_D m c t h0 h2 s.1 s.2.1 s.2.2) y (cover_of_rowsDown 30 _ ?_ y hy)
    unfold atLast runLast
    dsimp only
    rw [dif_pos hc]
    iterate 30 refine ⟨⟨by decide, rfl⟩, ?_⟩
    trivial
  · have hL : (atLast (F := Ideal) m c t h0 h2 s.1 s.2.1 s.2.2).2.2.2.1 = [] := by
      unfold atLast runLast
      dsimp only
      rw [dif_neg hc]
    have : (afterLast m c t h0 h2 s).2.2 y = s.2.2 y := by
      unfold afterLast
      dsimp only
      rw [hL, View.writes_nil]
      exact congrFun (Memref.IsWhole.read_unread (Memref.isWhole_whole cc0_scratch2) s.2.2) y
    rw [this]
    refine (GD_zero _ _ (fun hn => hc ?_) _ y).symm
    rw [← hn, runLast.sl.v1322, runLast.sl.v1321, last_wb, last_hb, runLast.sl.cst_189]

/-! ## All points so far -/

/-- The share of point `n`'s window in a place of the sums' buffer, -/
def shareS (c : Dev nD) (y : S240x512.Idx) (n : ℕ) : EReal :=
  if h : n < cfg0.N then GS (ceP m c ⟨n, h⟩) (wbP m c ⟨n, h⟩) (fun _ => 0) y else 0
/-- of the counts' buffer, -/
def shareN (c : Dev nD) (y : S240x512.Idx) (n : ℕ) : EReal :=
  if h : n < cfg0.N then GS (fun _ => 1) (wbP m c ⟨n, h⟩) (fun _ => 0) y else 0
/-- and of the corrections' buffer. -/
def shareD (c : Dev nD) (y : S32x512.Idx) (n : ℕ) : EReal :=
  if h : n < cfg0.N then GD (wbP m c ⟨n, h⟩) (hbP m c ⟨n, h⟩) (dmP m c ⟨n, h⟩) (fun _ => 0) y else 0

/-- What a window adds to a place does not depend on what the place held. -/
theorem GS_split (ce wb : FVec Ideal S64x512 .f32) (s : Vec Ideal S240x512 .f32) (y : S240x512.Idx) :
    GS ce wb s y = s y + GS ce wb (fun _ => 0) y := by unfold GS; rw [zero_add]
/-- The same for the corrections. -/
theorem GD_split (wb hb : FVec Ideal S64x512 .f32) (dm : IVec S64x512 1) (s : Vec Ideal S32x512 .f32) (y : S32x512.Idx) :
    GD wb hb dm s y = s y + GD wb hb dm (fun _ => 0) y := by unfold GD; rw [zero_add]

/-- A point's step of the carried buffers, whichever kind of point it is. -/
theorem carry_step (c : Dev nD) (n : ℕ) (hn : n + 1 < cfg0.N) :
    (∀ y, (carry m c (n + 1) hn).1 y = GS (ceP m c ⟨n + 1, hn⟩) (wbP m c ⟨n + 1, hn⟩) (carry m c n (Nat.lt_of_succ_lt hn)).1 y) ∧
    (∀ y, (carry m c (n + 1) hn).2.1 y = GS (fun _ => 1) (wbP m c ⟨n + 1, hn⟩) (carry m c n (Nat.lt_of_succ_lt hn)).2.1 y) ∧
    (∀ y, (y 0).val < 30 → (carry m c (n + 1) hn).2.2 y
      = GD (wbP m c ⟨n + 1, hn⟩) (hbP m c ⟨n + 1, hn⟩) (dmP m c ⟨n + 1, hn⟩) (carry m c n (Nat.lt_of_succ_lt hn)).2.2 y) := by
  have h0 : ¬isFirst (grid0.coords ⟨n + 1, hn⟩) := fun h => absurd ((isFirst_iff ⟨n + 1, hn⟩).mp h) (Nat.succ_ne_zero n)
  by_cases h2 : isLast (grid0.coords ⟨n + 1, hn⟩)
  · have e : carry m c (n + 1) hn = afterLast m c ⟨n + 1, hn⟩ h0 h2 (carry m c n (Nat.lt_of_succ_lt hn)) := dif_pos h2
    rw [e]
    exact ⟨afterLast_S m c _ h0 h2 _, afterLast_N m c _ h0 h2 _, afterLast_D m c _ h0 h2 _⟩
  · have e : carry m c (n + 1) hn = afterMid m c ⟨n + 1, hn⟩ h0 h2 (carry m c n (Nat.lt_of_succ_lt hn)) := dif_neg h2
    rw [e]
    exact ⟨afterMid_S m c _ h0 h2 _, afterMid_N m c _ h0 h2 _, afterMid_D m c _ h0 h2 _⟩

/-- The running buffers after point `n`: the shares of the windows up to it, added up. -/
theorem carry_eq (c : Dev nD) : ∀ (n : ℕ) (hn : n < cfg0.N),
    (∀ y, (carry m c n hn).1 y = ∑ i ∈ Finset.range (n + 1), shareS m c y i) ∧
    (∀ y, (carry m c n hn).2.1 y = ∑ i ∈ Finset.range (n + 1), shareN m c y i) ∧
    (∀ y, (y 0).val < 30 → (carry m c n hn).2.2 y = ∑ i ∈ Finset.range (n + 1), shareD m c y i)
  | 0, hn => by
    have h0 : isFirst (grid0.coords ⟨0, hn⟩) := (isFirst_iff ⟨0, hn⟩).mpr rfl
    have h2 : ¬isLast (grid0.coords ⟨0, hn⟩) := fun h => absurd ((isLast_iff ⟨0, hn⟩).mp h) (show ¬(0 = 63) by decide)
    have e : carry m c 0 hn = afterFirst m c ⟨0, hn⟩ h0 h2 := rfl
    rw [e]
    refine ⟨fun y => ?_, fun y => ?_, fun y hy => ?_⟩
    · rw [afterFirst_S, Finset.sum_range_one, shareS, dif_pos hn]
    · rw [afterFirst_N, Finset.sum_range_one, shareN, dif_pos hn]
    · rw [afterFirst_D m c _ h0 h2 y hy, Finset.sum_range_one, shareD, dif_pos hn]
  | n + 1, hn => by
    obtain ⟨iS, iN, iD⟩ := carry_eq c n (Nat.lt_of_succ_lt hn)
    obtain ⟨kS, kN, kD⟩ := carry_step m c n hn
    refine ⟨fun y => ?_, fun y => ?_, fun y hy => ?_⟩
    · rw [kS, GS_split, iS, Finset.sum_range_succ _ (n + 1), shareS, dif_pos hn]
    · rw [kN, GS_split, iN, Finset.sum_range_succ _ (n + 1), shareN, dif_pos hn]
    · rw [kD y hy, GD_split, iD y hy, Finset.sum_range_succ _ (n + 1), shareD, dif_pos hn]

end Cert.KernelIdeal.Ghm

end
-- ==== Proof.KernelIdeal.Result.lean ====
/-
The result the last point writes, from what it leaves in the running buffers.
-/
module

public import proofs.«01_k».proof.Proof.KernelIdeal.After
public import Idealize.ShloMosaic.Lib.Pointwise
public import Idealize.ShloMosaic.Lib.Pipeline.ValueKit

@[expose] public section

set_option maxRecDepth 16384

noncomputable section

namespace Cert.KernelIdeal.Ghm

open Idealize.ShloMosaic Idealize.ShloMosaic.TcCoe
open Idealize.SL.Sem
open Idealize.ShloMosaic.Pipeline (Dat)
open Cert.KernelIdeal Cert.KernelIdeal.Gen

variable (m : (ℓ : Loc nD τ sig) → Buf (Elt Ideal) ℓ)

/-- A bin's eight rows. -/
abbrev rows8 (b : Fin 30) : Rect S240x512 := Rect.unit (s := S240x512) ![8 * b.val, 0] ![8, 512]
  (fun a => by have := b.isLt; fin_cases a <;> (simp; try omega))
/-- A bin's row. -/
abbrev row1 (b : Fin 30) : Rect S32x512 := Rect.unit (s := S32x512) ![b.val, 0] ![1, 512]
  (fun a => by have := b.isLt; fin_cases a <;> (simp; try omega))

/-- A bin's part of the numerator or the denominator: `s`'s total over the bin's count, unless the bin is empty. -/
def binPart (s n : Vec Ideal S8x512 .f32) (d : Vec Ideal S1x512 .f32) : EReal :=
  if 0 < ∑ x : Fin 8, ∑ y : Fin 512, n (ix2 x y)
  then Ideal.div (∑ x : Fin 8, ∑ y : Fin 512, s (ix2 x y)) (∑ x : Fin 8, ∑ y : Fin 512, n (ix2 x y) + ∑ y : Fin 512, d (ix2 0 y))
  else 0

/-- A number to each of the thirty bins, added up from the first. -/
def sum30 (f : Fin 30 → EReal) : EReal :=
  f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29

/-- That is the sum over the bins. -/
theorem sum30_eq (f : Fin 30 → EReal) : sum30 f = ∑ b, f b := by
  unfold sum30
  simp only [Fin.sum_univ_castSucc, Fin.sum_univ_zero, zero_add]
  rfl

/-- A store over a whole buffer reads back as what was stored. -/
theorem whole_store {R C : ℕ} (v : View sig .tc .vmem ⟨2, ![R, C]⟩ .f32)
    (inb : ∀ a, (![0, 0] : Fin 2 → ℕ) a + (![R, C] : Fin 2 → ℕ) a ≤ (![R, C] : Fin 2 → ℕ) a)
    (P : (Rect.unit (s := ⟨2, ![R, C]⟩) ![0, 0] ![R, C] inb).shape.Idx → EReal)
    (y : (⟨2, ![R, C]⟩ : Shape).Idx) :
    v.read (Elt Ideal) (v.writes (Elt Ideal) v.junk [⟨Rect.unit (s := ⟨2, ![R, C]⟩) ![0, 0] ![R, C] inb, P⟩]) y
      = P (ix2 (y 0) (y 1)) := by
  have e : (Rect.unit (s := ⟨2, ![R, C]⟩) ![0, 0] ![R, C] inb).emb (ix2 (y 0) (y 1)) = y := by
    funext a
    refine Fin.ext ?_
    fin_cases a <;> simp [Rect.emb, Rect.unit]
  conv_lhs => rw [← e]
  rw [View.read_writes_cons_emb]

/-- The last point's arithmetic, on the eight rows and the row it loads for each bin. -/
theorem chain (S N : Fin 30 → Vec Ideal S8x512 .f32) (D : Fin 30 → Vec Ideal S1x512 .f32) (i : Fin 8) (j : Fin 128) :
    k0_pay1 (F := Ideal) (k0_pay175 (k0_pay171 (k0_pay163 (k0_pay155 (k0_pay151 (k0_pay143 (k0_pay135 (k0_pay131
        (k0_pay123 (k0_pay115 (k0_pay111 (k0_pay103 (k0_pay95 (k0_pay91 (k0_pay83 (k0_pay75 (k0_pay71 (k0_pay63 (N 0) (D 0))
        (k0_pay65 (N 1)) (k0_pay66 (D 1)) (N 2) (D 2)) (N 3) (D 3)) (Scalar.cmpf .ogt (k0_pay76 (N 4)) (FloatOps.ofBits .f32
        0#32)) (k0_pay79 (N 4) (D 4)) (FloatOps.ofBits .f32 0#32) (N 5) (D 5)) (k0_pay85 (N 6)) (k0_pay86 (D 6)) (N 7) (D 7))
        (N 8) (D 8)) (Scalar.cmpf .ogt (k0_pay96 (N 9)) (FloatOps.ofBits .f32 0#32)) (k0_pay99 (N 9) (D 9)) (FloatOps.ofBits
        .f32 0#32) (N 10) (D 10)) (k0_pay105 (N 11)) (k0_pay106 (D 11)) (N 12) (D 12)) (N 13) (D 13)) (Scalar.cmpf .ogt
        (k0_pay116 (N 14)) (FloatOps.ofBits .f32 0#32)) (k0_pay119 (N 14) (D 14)) (FloatOps.ofBits .f32 0#32) (N 15) (D 15))
        (k0_pay125 (N 16)) (k0_pay126 (D 16)) (N 17) (D 17)) (N 18) (D 18)) (Scalar.cmpf .ogt (k0_pay136 (N 19))
        (FloatOps.ofBits .f32 0#32)) (k0_pay139 (N 19) (D 19)) (FloatOps.ofBits .f32 0#32) (N 20) (D 20)) (k0_pay145 (N 21))
        (k0_pay146 (D 21)) (N 22) (D 22)) (N 23) (D 23)) (Scalar.cmpf .ogt (k0_pay156 (N 24)) (FloatOps.ofBits .f32 0#32))
        (k0_pay159 (N 24) (D 24)) (FloatOps.ofBits .f32 0#32) (N 25) (D 25)) (k0_pay165 (N 26)) (k0_pay166 (D 26)) (N 27) (D
        27)) (N 28) (D 28)) (Scalar.cmpf .ogt (k0_pay176 (N 29)) (FloatOps.ofBits .f32 0#32)) (k0_pay178 (k0_pay170 (k0_pay162
        (k0_pay158 (k0_pay150 (k0_pay142 (k0_pay138 (k0_pay130 (k0_pay122 (k0_pay118 (k0_pay110 (k0_pay102 (k0_pay98 (k0_pay90
        (k0_pay82 (k0_pay78 (k0_pay70 (k0_pay62 (S 0) (N 0) (D 0)) (k0_pay64 (S 1)) (k0_pay65 (N 1)) (k0_pay66 (D 1)) (S 2) (N
        2) (D 2)) (k0_pay72 (S 3)) (N 3) (D 3) (S 4) (N 4) (D 4)) (S 5) (N 5) (D 5)) (k0_pay84 (S 6)) (k0_pay85 (N 6))
        (k0_pay86 (D 6)) (S 7) (N 7) (D 7)) (k0_pay92 (S 8)) (N 8) (D 8) (S 9) (N 9) (D 9)) (S 10) (N 10) (D 10)) (k0_pay104
        (S 11)) (k0_pay105 (N 11)) (k0_pay106 (D 11)) (S 12) (N 12) (D 12)) (k0_pay112 (S 13)) (N 13) (D 13) (S 14) (N 14) (D
        14)) (S 15) (N 15) (D 15)) (k0_pay124 (S 16)) (k0_pay125 (N 16)) (k0_pay126 (D 16)) (S 17) (N 17) (D 17)) (k0_pay132
        (S 18)) (N 18) (D 18) (S 19) (N 19) (D 19)) (S 20) (N 20) (D 20)) (k0_pay144 (S 21)) (k0_pay145 (N 21)) (k0_pay146 (D
        21)) (S 22) (N 22) (D 22)) (k0_pay152 (S 23)) (N 23) (D 23) (S 24) (N 24) (D 24)) (S 25) (N 25) (D 25)) (k0_pay164 (S
        26)) (k0_pay165 (N 26)) (k0_pay166 (D 26)) (S 27) (N 27) (D 27)) (k0_pay172 (S 28)) (N 28) (D 28) (S 29) (N 29) (D
        29)) (k0_pay179 (N 29) (D 29)) (FloatOps.ofBits .f32 0#32) (ix2 i j)
      = Ideal.div (sum30 fun b => binPart (S b) (N b) (D b))
          (sum30 (fun b => binPart (N b) (N b) (D b)) + Ideal.ofBits .f32 0x33D6BF95#32) := by
  unfold sum30 binPart
  pointwise [k0_pay1, k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179]

/-- The result, from what the last point leaves in the running buffers. -/
theorem result_raw (c : Dev nD) (t : Fin cfg0.N) (h0 h2) (s : Carry Ideal) (y : S8x128.Idx) :
    ∃ g : accD.view.ty.Contents (Elt Ideal), accD.view.read (Elt Ideal) g = (afterLast m c t h0 h2 s).2.2 ∧
      runLast.sl.v1337 c (stg0 t) (whole0 t) (stg1 t) (whole1 t) accD (Memref.isWhole_whole _) (iblk m c 0 t) (iblk m c 1 t) s.2.2
        = accD.view.readAt (Elt Ideal) (row1 0).toLoadRect g ∧
      result m c t h0 h2 s y
        = Ideal.div (sum30 fun b => binPart
              (accS.view.readCov (runLast.sl.HS0_30 c (stg0 t) (whole0 t) (stg1 t) (whole1 t) accS (Memref.isWhole_whole _)
                (iblk m c 0 t) (iblk m c 1 t) s.1) (rows8 b).toLoadRect)
              (accN.view.readCov (runLast.sl.HS1_30 c (stg0 t) (whole0 t) (stg1 t) (whole1 t) accN (Memref.isWhole_whole _)
                (iblk m c 0 t) (iblk m c 1 t) s.2.1) (rows8 b).toLoadRect)
              (accD.view.readAt (Elt Ideal) (row1 b).toLoadRect g))
            (sum30 (fun b => binPart
              (accN.view.readCov (runLast.sl.HS1_30 c (stg0 t) (whole0 t) (stg1 t) (whole1 t) accN (Memref.isWhole_whole _)
                (iblk m c 0 t) (iblk m c 1 t) s.2.1) (rows8 b).toLoadRect)
              (accN.view.readCov (runLast.sl.HS1_30 c (stg0 t) (whole0 t) (stg1 t) (whole1 t) accN (Memref.isWhole_whole _)
                (iblk m c 0 t) (iblk m c 1 t) s.2.1) (rows8 b).toLoadRect)
              (accD.view.readAt (Elt Ideal) (row1 b).toLoadRect g)) + Ideal.ofBits .f32 0x33D6BF95#32) := by
  apply Exists.intro
  refine And.intro ?hg (And.intro rfl ?hb)
  case hg =>
    unfold afterLast atLast runLast
    dsimp only
    by_cases hc : Scalar.cmpi .ne (runLast.sl.v1322 (F := Ideal) c (stg0 t) (whole0 t) (stg1 t) (whole1 t) (iblk m c 0 t) (iblk m c 1 t)) 0#32 = 1#1
    · rw [dif_pos hc, dif_pos hc]
    · rw [dif_neg hc, dif_neg hc]
      rfl
  refine Eq.trans ?_ (chain (fun b => accS.view.readCov (runLast.sl.HS0_30 c (stg0 t) (whole0 t) (stg1 t) (whole1 t) accS
    (Memref.isWhole_whole _) (iblk m c 0 t) (iblk m c 1 t) s.1) (rows8 b).toLoadRect) (fun b => accN.view.readCov (runLast.sl.HS1_30 c
    (stg0 t) (whole0 t) (stg1 t) (whole1 t) accN (Memref.isWhole_whole _) (iblk m c 0 t) (iblk m c 1 t) s.2.1) (rows8 b).toLoadRect)
    (fun b => accD.view.readAt (Elt Ideal) (row1 b).toLoadRect _) (y 0) (y 1))
  unfold result atLast runLast
  dsimp only
  refine (whole_store outV _ _ y).trans ?_
  simp only [runLast.sl.cst_189, runLast.sl.r_149, runLast.sl.r_148, runLast.sl.r_146, runLast.sl.r_144, runLast.sl.r_143,
    runLast.sl.r_142, runLast.sl.r_141, runLast.sl.r_139, runLast.sl.r_137, runLast.sl.r_135, runLast.sl.r_133,
    runLast.sl.r_132, runLast.sl.r_131, runLast.sl.r_130, runLast.sl.r_128, runLast.sl.r_126, runLast.sl.r_124,
    runLast.sl.r_122, runLast.sl.r_121, runLast.sl.r_120, runLast.sl.r_119, runLast.sl.r_117, runLast.sl.r_115,
    runLast.sl.r_113, runLast.sl.r_111, runLast.sl.r_110, runLast.sl.r_109, runLast.sl.r_108, runLast.sl.r_106,
    runLast.sl.r_104, runLast.sl.r_102, runLast.sl.r_100, runLast.sl.r_99, runLast.sl.r_98, runLast.sl.r_97,
    runLast.sl.r_95, runLast.sl.r_93, runLast.sl.r_91, runLast.sl.r_89, runLast.sl.r_88, runLast.sl.r_87,
    runLast.sl.r_86, runLast.sl.r_84, runLast.sl.v2040, runLast.sl.r_147, runLast.sl.r_145, runLast.sl.r_140,
    runLast.sl.r_138, runLast.sl.v1920, runLast.sl.r_136, runLast.sl.r_134, runLast.sl.r_129, runLast.sl.r_127,
    runLast.sl.v1800, runLast.sl.r_125, runLast.sl.r_123, runLast.sl.r_118, runLast.sl.r_116, runLast.sl.v1680,
    runLast.sl.r_114, runLast.sl.r_112, runLast.sl.r_107, runLast.sl.r_105, runLast.sl.v1560, runLast.sl.r_103,
    runLast.sl.r_101, runLast.sl.r_96, runLast.sl.r_94, runLast.sl.v1440, runLast.sl.r_92, runLast.sl.r_90,
    runLast.sl.r_85]
  rfl

/-- A load of a bin's eight rows from the sums' buffer, after the last point's stores. -/
theorem load_S (c : Dev nD) (t : Fin cfg0.N) (h0 h2) (s : Carry Ideal) (b : Fin 30) :
    accS.view.readCov (runLast.sl.HS0_30 (F := Ideal) c (stg0 t) (whole0 t) (stg1 t) (whole1 t) accS (Memref.isWhole_whole _)
      (iblk m c 0 t) (iblk m c 1 t) s.1) (rows8 b).toLoadRect = fun x => (afterLast m c t h0 h2 s).1 ((rows8 b).emb x) := by
  unfold afterLast
  dsimp only
  rw [atLast_S]
  rfl
/-- The same from the counts' buffer. -/
theorem load_N (c : Dev nD) (t : Fin cfg0.N) (h0 h2) (s : Carry Ideal) (b : Fin 30) :
    accN.view.readCov (runLast.sl.HS1_30 (F := Ideal) c (stg0 t) (whole0 t) (stg1 t) (whole1 t) accN (Memref.isWhole_whole _)
      (iblk m c 0 t) (iblk m c 1 t) s.2.1) (rows8 b).toLoadRect = fun x => (afterLast m c t h0 h2 s).2.1 ((rows8 b).emb x) := by
  unfold afterLast
  dsimp only
  rw [atLast_N]
  rfl

/-- The result, from the running buffers after the last point: over the bins, a bin's sum over its count. -/
theorem result_eq (c : Dev nD) (t : Fin cfg0.N) (h0 h2) (s : Carry Ideal) (y : S8x128.Idx) (A : Carry Ideal)
    (hA : A = afterLast m c t h0 h2 s) :
    result m c t h0 h2 s y
      = Ideal.div (∑ b : Fin 30, binPart (fun x => A.1 ((rows8 b).emb x)) (fun x => A.2.1 ((rows8 b).emb x))
            (fun x => A.2.2 ((row1 b).emb x)))
          (∑ b : Fin 30, binPart (fun x => A.2.1 ((rows8 b).emb x)) (fun x => A.2.1 ((rows8 b).emb x))
            (fun x => A.2.2 ((row1 b).emb x)) + Ideal.ofBits .f32 0x33D6BF95#32) := by
  obtain ⟨g, hg, _, e⟩ := result_raw m c t h0 h2 s y
  have hD : ∀ b : Fin 30, accD.view.readAt (Elt Ideal) (row1 b).toLoadRect g = fun x => A.2.2 ((row1 b).emb x) := by
    intro b
    rw [hA, ← hg]
    rfl
  rw [e, sum30_eq, sum30_eq]
  simp only [load_S m c t h0 h2 s, load_N m c t h0 h2 s, hD, ← hA]
  rfl

end Cert.KernelIdeal.Ghm

end
-- ==== Proof.Bins.lean ====
/-
The bins of a gradient strictly between zero and one: thirty intervals of a thirtieth, the lower edge or the upper edge included.
-/
module

public import proofs.«01_k».proof.Proof.Pixel
public import Mathlib.Tactic.Linarith
public import Mathlib.Tactic.NormNum
public import Mathlib.Tactic.Positivity

@[expose] public section

set_option maxRecDepth 16384

noncomputable section

namespace Cert.Ghm

open Idealize.ShloMosaic

/-- The word of thirty. -/
theorem word30 : Ideal.ofBits .f32 1106247680#32 = ((30 : ℝ) : EReal) := by
  simp [Ideal.ofBits, Ideal.ieee]
  rw [← EReal.coe_mul]
  norm_num
/-- The word of twenty-nine. -/
theorem word29 : Ideal.ofBits .f32 1105723392#32 = ((29 : ℝ) : EReal) := by
  simp [Ideal.ofBits, Ideal.ieee]
  rw [← EReal.coe_mul]
  norm_num

/-- A truth value counts as one or nothing. -/
theorem bit_val (P : Prop) [Decidable P] :
    FloatOps.sitofp (F := Ideal) .f32 (BitVec.setWidth 32 (BitVec.ofBool (decide P))) = (((if P then 1 else 0 : ℝ)) : EReal) := by
  show (((BitVec.setWidth 32 (BitVec.ofBool (decide P))).toInt : ℝ) : EReal) = _
  by_cases h : P
  · rw [decide_eq_true h, if_pos h, show (BitVec.setWidth 32 (BitVec.ofBool true)).toInt = 1 from by decide]
    norm_num
  · rw [decide_eq_false h, if_neg h, show (BitVec.setWidth 32 (BitVec.ofBool false)).toInt = 0 from by decide]
    norm_num

/-- A quotient of a real by thirty. -/
theorem div30 (x : ℝ) : Ideal.div (x : EReal) ((30 : ℝ) : EReal) = ((x / 30 : ℝ) : EReal) := by
  unfold Ideal.div
  rw [if_neg (by exact_mod_cast (by norm_num : (30 : ℝ) ≠ 0)), div_eq_mul_inv, EReal.coe_mul, EReal.coe_inv]

variable (g : ℝ) (h0 : 0 < g) (h1 : g < 1)

include h0 h1 in
/-- Such a gradient's thirtyfold rounds down to a bin. -/
theorem floor_bounds : 0 ≤ ⌊g * 30⌋ ∧ ⌊g * 30⌋ ≤ 29 := by
  constructor
  · exact Int.floor_nonneg.mpr (by positivity)
  · have : ⌊g * 30⌋ < 30 := Int.floor_lt.mpr (by push_cast; linarith)
    omega

include h0 h1 in
/-- That bin is the one the kernel starts from. -/
theorem kcE_real : kcE (g : EReal) = (((⌊g * 30⌋ : ℤ) : ℝ) : EReal) := by
  obtain ⟨ha, hb⟩ := floor_bounds g h0 h1
  unfold kcE
  rw [word30, word29, ← EReal.coe_mul]
  show min ((29 : ℝ) : EReal) (max 0 (((⌊g * 30⌋ : ℤ) : ℝ) : EReal)) = _
  rw [max_eq_right (by exact_mod_cast ha), min_eq_right (by exact_mod_cast hb)]

include h0 h1 in
/-- The bin for the weights: a gradient on an edge goes to the bin below. -/
theorem wbE_real : wbE (g : EReal) = (((⌊g * 30⌋ : ℤ) - (if g ≤ (⌊g * 30⌋ : ℤ) / 30 then 1 else 0) : ℝ) : EReal) := by
  have hlt : g * 30 < ⌊g * 30⌋ + 1 := Int.lt_floor_add_one _
  unfold wbE
  rw [kcE_real g h0 h1, word30, div30, ← EReal.coe_one, ← EReal.coe_add, div30]
  simp only [EReal.coe_le_coe_iff, EReal.coe_lt_coe_iff]
  rw [bit_val, bit_val, if_neg (by linarith : ¬((⌊g * 30⌋ : ℤ) + 1 : ℝ) / 30 < g), ← EReal.coe_sub, ← EReal.coe_add, add_zero]

include h0 h1 in
/-- The bin for the counts: a gradient on an edge goes to the bin above. -/
theorem hbE_real : hbE (g : EReal) = (((⌊g * 30⌋ : ℤ) : ℝ) : EReal) := by
  obtain ⟨ha, hb⟩ := floor_bounds g h0 h1
  have hlt : g * 30 < ⌊g * 30⌋ + 1 := Int.lt_floor_add_one _
  have hle : (⌊g * 30⌋ : ℝ) ≤ g * 30 := Int.floor_le _
  unfold hbE
  rw [kcE_real g h0 h1, word30, word29, ← EReal.coe_one, div30, ← EReal.coe_add, ← EReal.coe_mul, ← EReal.coe_mul]
  simp only [EReal.coe_le_coe_iff, EReal.coe_lt_coe_iff]
  rw [bit_val, bit_val, if_neg (by linarith), if_neg (by linarith), ← EReal.coe_sub, ← EReal.coe_add, sub_zero, add_zero,
    min_eq_left (by exact_mod_cast hb)]

include h0 h1 in
/-- A gradient's bin for the weights is the interval that holds it, its upper edge included. -/
theorem wbE_iff (b : ℕ) : wbE (g : EReal) = ((b : ℝ) : EReal) ↔ (b : ℝ) / 30 < g ∧ g ≤ ((b : ℝ) + 1) / 30 := by
  rw [wbE_real g h0 h1, EReal.coe_eq_coe_iff]
  have hlt : g * 30 < ⌊g * 30⌋ + 1 := Int.lt_floor_add_one _
  have hle : (⌊g * 30⌋ : ℝ) ≤ g * 30 := Int.floor_le _
  generalize ⌊g * 30⌋ = f at *
  constructor
  · intro h
    split_ifs at h with hc
    · constructor <;> linarith
    · constructor <;> linarith
  · rintro ⟨ha, hb⟩
    split_ifs with hc
    · have e1 : (b : ℝ) < f := by linarith
      have e2 : (f : ℝ) ≤ b + 1 := by linarith
      have e1' : (b : ℤ) < f := by exact_mod_cast e1
      have e2' : f ≤ (b : ℤ) + 1 := by exact_mod_cast e2
      have : f = (b : ℤ) + 1 := by omega
      rw [this]; push_cast; ring
    · have e1 : (b : ℝ) < f + 1 := by linarith
      have e2 : (f : ℝ) < b + 1 := by push Not at hc; linarith
      have e1' : (b : ℤ) < f + 1 := by exact_mod_cast e1
      have e2' : f < (b : ℤ) + 1 := by exact_mod_cast e2
      have : f = (b : ℤ) := by omega
      rw [this]; push_cast; ring

include h0 h1 in
/-- A gradient's bin for the counts is the interval that holds it, its lower edge included. -/
theorem hbE_iff (b : ℕ) : hbE (g : EReal) = ((b : ℝ) : EReal) ↔ (b : ℝ) / 30 ≤ g ∧ g < ((b : ℝ) + 1) / 30 := by
  rw [hbE_real g h0 h1, EReal.coe_eq_coe_iff]
  have hlt : g * 30 < ⌊g * 30⌋ + 1 := Int.lt_floor_add_one _
  have hle : (⌊g * 30⌋ : ℝ) ≤ g * 30 := Int.floor_le _
  generalize ⌊g * 30⌋ = f at *
  constructor
  · intro h
    constructor <;> linarith
  · rintro ⟨ha, hb⟩
    have e1 : (b : ℝ) < f + 1 := by linarith
    have e2 : (f : ℝ) < b + 1 := by linarith
    have e1' : (b : ℤ) < f + 1 := by exact_mod_cast e1
    have e2' : f < (b : ℤ) + 1 := by exact_mod_cast e2
    have : f = (b : ℤ) := by omega
    rw [this]; push_cast; ring

end Cert.Ghm

end
-- ==== Proof.Weigh.lean ====
/-
The reference weighs each pixel by one over its bin's count and adds the pixels up; the kernel adds up each bin and divides the
bin's sum by its count. The two agree, also where a count is zero: there the quotient is infinite.
-/
module

public import Idealize.ShloMosaic.Lib.Pointwise
public import Mathlib.Tactic.Linarith
public import Mathlib.Tactic.NormNum
public import Mathlib.Tactic.Positivity

@[expose] public section

noncomputable section

namespace Cert.Ghm

open Idealize.ShloMosaic

/-- Multiplying a sum of numbers that are not negative multiplies each. -/
theorem mul_sum_nonneg {ι : Type} (s : Finset ι) (x : EReal) (f : ι → EReal) (hf : ∀ i, 0 ≤ f i) :
    x * ∑ i ∈ s, f i = ∑ i ∈ s, x * f i := by
  classical
  induction s using Finset.induction_on with
  | empty => simp
  | insert a s ha ih =>
    rw [Finset.sum_insert ha, Finset.sum_insert ha, EReal.left_distrib_of_nonneg (hf a) (Finset.sum_nonneg fun i _ => hf i), ih]

/-- One over a number that is not negative is not negative. -/
theorem div_one_nonneg (A : EReal) (hA : 0 ≤ A) : 0 ≤ Ideal.div 1 A := by
  unfold Ideal.div
  split_ifs
  · exact le_top
  · rename_i h; exact absurd zero_lt_one h
  · rw [one_mul]; exact EReal.inv_nonneg_of_nonneg hA

/-- Over an empty or a filled bin, the sum over the count is each pixel's weight times its loss, added up. -/
theorem bin_eq {ι : Type} [Fintype ι] (ce : ι → EReal) (hce : ∀ n, 0 < ce n) (B : ι → Prop) [DecidablePred B] (A : EReal) :
    (if 0 < ∑ n, (if B n then (1 : EReal) else 0) then Ideal.div (∑ n, if B n then ce n else 0) A else 0)
      = ∑ n, ce n * (if B n then Ideal.div 1 A else 0) := by
  have hnn : ∀ n, (0 : EReal) ≤ if B n then ce n else 0 := fun n => by
    split_ifs
    · exact (hce n).le
    · exact le_rfl
  have hmul : ∀ n, ce n * (if B n then Ideal.div 1 A else 0) = Ideal.div 1 A * (if B n then ce n else 0) := fun n => by
    split_ifs
    · exact mul_comm _ _
    · rw [mul_zero, mul_zero]
  simp only [hmul]
  rw [← mul_sum_nonneg _ _ _ hnn]
  by_cases hB : ∃ n, B n
  · obtain ⟨i, hi⟩ := hB
    have hs : 0 < ∑ n, if B n then ce n else 0 := by
      refine lt_of_lt_of_le (hce i) ?_
      have := Finset.single_le_sum (f := fun n => if B n then ce n else 0) (fun n _ => hnn n) (Finset.mem_univ i)
      simpa only [if_pos hi] using this
    have hn : (0 : EReal) < ∑ n, if B n then (1 : EReal) else 0 := by
      refine lt_of_lt_of_le zero_lt_one ?_
      have := Finset.single_le_sum (f := fun n => if B n then (1 : EReal) else 0)
        (fun n _ => by split_ifs <;> simp) (Finset.mem_univ i)
      simpa only [if_pos hi] using this
    rw [if_pos hn]
    unfold Ideal.div
    split_ifs with hA
    · exact (EReal.top_mul_of_pos hs).symm
    · rename_i h1; exact absurd zero_lt_one h1
    · rw [one_mul, mul_comm]
  · have hz : ∀ n, ¬B n := fun n h => hB ⟨n, h⟩
    simp only [if_neg (hz _), Finset.sum_const_zero, lt_irrefl, if_false, mul_zero]

/-- Over all bins: the kernel's total is the reference's. -/
theorem total_eq {ι β : Type} [Fintype ι] [Fintype β] (ce : ι → EReal) (hce : ∀ n, 0 < ce n) (B : β → ι → Prop)
    [∀ b, DecidablePred (B b)] (A : β → EReal) (hA : ∀ b, 0 ≤ A b) :
    ∑ b, (if 0 < ∑ n, (if B b n then (1 : EReal) else 0) then Ideal.div (∑ n, if B b n then ce n else 0) (A b) else 0)
      = ∑ n, ce n * ∑ b, (if B b n then Ideal.div 1 (A b) else 0) := by
  simp only [bin_eq ce hce]
  rw [Finset.sum_comm]
  refine Finset.sum_congr rfl fun n _ => (mul_sum_nonneg _ _ _ fun b => ?_).symm
  split_ifs
  · exact div_one_nonneg _ (hA b)
  · exact le_rfl

/-- A bin's weighted pixels, corrected at the pixels whose bins differ, are the pixels counted in it. -/
theorem count_eq {ι : Type} [Fintype ι] (W H : ι → Prop) [DecidablePred W] [DecidablePred H] :
    ∑ n, (if W n then (1 : EReal) else 0) + ∑ n, ((if H n then (1 : EReal) else 0) - (if W n then (1 : EReal) else 0))
      = ∑ n, (if H n then (1 : EReal) else 0) := by
  rw [← Finset.sum_add_distrib]
  refine Finset.sum_congr rfl fun n _ => ?_
  have e1 : (1 : EReal) + (1 - 1) = 1 := by
    rw [← EReal.coe_one, ← EReal.coe_sub, ← EReal.coe_add]; norm_num
  have e2 : (1 : EReal) + (0 - 1) = 0 := by
    rw [← EReal.coe_one, ← EReal.coe_zero, ← EReal.coe_sub, ← EReal.coe_add]; norm_num
  by_cases hW : W n <;> by_cases hH : H n <;> simp only [hW, hH, if_true, if_false, e1, e2, sub_zero, zero_add]

end Cert.Ghm

end
-- ==== Proof.Loss.lean ====
/-
The loss of all pixels from their cross entropies and gradients, as the kernel adds it up: bin by bin.
-/
module

public import proofs.«01_k».proof.Proof.Pixel
public import Idealize.ShloMosaic.Lib.Pointwise

@[expose] public section

set_option maxRecDepth 16384

noncomputable section

namespace Cert.Ghm

open Idealize.ShloMosaic

/-- A bin's part of the numerator (of the denominator, at a loss of one everywhere): its pixels' losses over its count. -/
def part (ce g : Fin 2097152 → EReal) (b : Fin 30) : EReal :=
  if 0 < ∑ n, (if wbE (g n) = ((b.val : ℝ) : EReal) then (1 : EReal) else 0)
  then Ideal.div (∑ n, if wbE (g n) = ((b.val : ℝ) : EReal) then ce n else 0)
    (∑ n, if hbE (g n) = ((b.val : ℝ) : EReal) then (1 : EReal) else 0)
  else 0

/-- The loss. -/
def loss (ce g : Fin 2097152 → EReal) : EReal :=
  Ideal.div (∑ b, part ce g b) (∑ b, part (fun _ => 1) g b + Ideal.ofBits .f32 869711765#32)

/-- All pixels, by window, row and lane. -/
theorem sum_pixels (f : Fin 2097152 → EReal) :
    ∑ n, f n = ∑ t : Fin 64, ∑ q : Fin 64, ∑ l : Fin 512,
      f ⟨t.val * 32768 + q.val * 512 + l.val, by have := t.isLt; have := q.isLt; have := l.isLt; omega⟩ := by
  rw [Fin.sum_univ_tiles 64 32768 (by norm_num) f]
  refine Finset.sum_congr rfl fun t _ => ?_
  rw [Fin.sum_univ_tiles 64 512 (by norm_num) _]
  refine Finset.sum_congr rfl fun q _ => Finset.sum_congr rfl fun l _ => ?_
  refine congrArg f (Fin.ext ?_)
  show t.val * 32768 + (q.val * 512 + l.val) = t.val * 32768 + q.val * 512 + l.val
  omega

end Cert.Ghm

end
-- ==== Proof.KernelIdeal.Totals.lean ====
/-
The kernel's running buffers after the last window, bin by bin: the sums over all pixels.
-/
module

public import proofs.«01_k».proof.Proof.KernelIdeal.Result
public import proofs.«01_k».proof.Proof.Bins
public import proofs.«01_k».proof.Proof.Weigh
public import proofs.«01_k».proof.Proof.Loss

@[expose] public section

set_option maxRecDepth 16384

noncomputable section

namespace Cert.KernelIdeal.Ghm

open Idealize.ShloMosaic Idealize.ShloMosaic.TcCoe
open Idealize.SL.Sem
open Idealize.ShloMosaic.Pipeline (Dat)
open Cert.KernelIdeal Cert.KernelIdeal.Gen
open Cert.Ghm

/-! ## The eight rows of a bin -/

/-- A column folded into eight rows and those added up is the column added up. -/
theorem fold8_sum (f : Fin 64 → EReal) : ∑ r : Fin 8, fold8 f r = ∑ q : Fin 64, f q := by
  rw [Fin.sum_univ_tiles 8 8 (by norm_num) f, Finset.sum_comm]
  refine Finset.sum_congr rfl fun r _ => ?_
  have e : ∀ (a : ℕ) (h : a < 64) (b : ℕ) (h' : b < 64), a = b → f ⟨a, h⟩ = f ⟨b, h'⟩ := fun a h b h' hab => by
    subst hab; rfl
  rw [Fin.sum_univ_eight]
  unfold fold8
  rw [e r.val (by omega) (0 * 8 + r.val) (by omega) (by omega),
    e (32 + r.val) (by omega) (4 * 8 + r.val) (by omega) (by omega),
    e (16 + r.val) (by omega) (2 * 8 + r.val) (by omega) (by omega),
    e (32 + (16 + r.val)) (by omega) (6 * 8 + r.val) (by omega) (by omega),
    e (8 + r.val) (by omega) (1 * 8 + r.val) (by omega) (by omega),
    e (32 + (8 + r.val)) (by omega) (5 * 8 + r.val) (by omega) (by omega),
    e (16 + (8 + r.val)) (by omega) (3 * 8 + r.val) (by omega) (by omega),
    e (32 + (16 + (8 + r.val))) (by omega) (7 * 8 + r.val) (by omega) (by omega)]
  show _ = f ⟨0 * 8 + r.val, _⟩ + f ⟨1 * 8 + r.val, _⟩ + f ⟨2 * 8 + r.val, _⟩ + f ⟨3 * 8 + r.val, _⟩ + f ⟨4 * 8 + r.val, _⟩
    + f ⟨5 * 8 + r.val, _⟩ + f ⟨6 * 8 + r.val, _⟩ + f ⟨7 * 8 + r.val, _⟩
  ac_rfl

/-- The word of a bin's number. -/
theorem bin_word (b : Fin 30) (h : b.val < 32) : Ideal.ofBits .f32 (binBits ⟨b.val, h⟩) = ((b.val : ℝ) : EReal) := by
  obtain ⟨b, hb⟩ := b
  interval_cases b <;> (simp [binBits, Ideal.ofBits, Ideal.ieee]; try (rw [← EReal.coe_mul]; norm_num))

/-- A bin's eight rows, added up: its sum over the windows, rows and lanes. -/
theorem tot_S (ce wb : Fin cfg0.N → FVec Ideal S64x512 .f32) (s : Vec Ideal S240x512 .f32)
    (h : ∀ y, s y = ∑ t, GS (ce t) (wb t) (fun _ => 0) y) (b : Fin 30) :
    ∑ x : Fin 8, ∑ y : Fin 512, s ((rows8 b).emb (ix2 x y))
      = ∑ t, ∑ q : Fin 64, ∑ l : Fin 512, if wb t (ix2 q l) = ((b.val : ℝ) : EReal) then ce t (ix2 q l) else 0 := by
  have hb := b.isLt
  have e : ∀ (x : Fin 8) (y : Fin 512), s ((rows8 b).emb (ix2 x y))
      = ∑ t, fold8 (fun q => if wb t (ix2 q y) = ((b.val : ℝ) : EReal) then ce t (ix2 q y) else 0) x := fun x y => by
    rw [h]
    refine Finset.sum_congr rfl fun t _ => ?_
    have hbit : binBits ⟨8 * b.val / 8, by omega⟩ = binBits ⟨b.val, by omega⟩ :=
      congrArg binBits (Fin.ext (by show 8 * b.val / 8 = b.val; omega))
    rw [GS_emb _ _ _ (8 * b.val) (by omega), zero_add]
    unfold binAdd
    rw [hbit, bin_word]
  simp only [e]
  rw [Finset.sum_comm]
  simp only [Finset.sum_comm (s := (Finset.univ : Finset (Fin 8))) (t := (Finset.univ : Finset (Fin cfg0.N)))]
  simp only [fold8_sum]
  rw [Finset.sum_comm]
  refine Finset.sum_congr rfl fun t _ => ?_
  rw [Finset.sum_comm]

/-- A bin's row of corrections, added up. -/
theorem tot_D (wb hb : Fin cfg0.N → FVec Ideal S64x512 .f32) (s : Vec Ideal S32x512 .f32)
    (h : ∀ y, (y 0).val < 30 → s y = ∑ t, GD (wb t) (hb t) (k0_pay344 (wb t) (hb t)) (fun _ => 0) y) (b : Fin 30) :
    ∑ y : Fin 512, s ((row1 b).emb (ix2 0 y))
      = ∑ t, ∑ q : Fin 64, ∑ l : Fin 512, ((if hb t (ix2 q l) = ((b.val : ℝ) : EReal) then (1 : EReal) else 0)
          - (if wb t (ix2 q l) = ((b.val : ℝ) : EReal) then (1 : EReal) else 0)) := by
  have e1 : (1 : EReal) - 1 = 0 := by
    rw [← EReal.coe_one, ← EReal.coe_sub]; norm_num
  have e : ∀ (y : Fin 512), s ((row1 b).emb (ix2 0 y))
      = ∑ t, ∑ q : Fin 64, ((if hb t (ix2 q y) = ((b.val : ℝ) : EReal) then (1 : EReal) else 0)
          - (if wb t (ix2 q y) = ((b.val : ℝ) : EReal) then (1 : EReal) else 0)) := fun y => by
    rw [h _ (by show b.val + 1 * 0 < 30; have := b.isLt; omega)]
    refine Finset.sum_congr rfl fun t _ => ?_
    rw [GD_emb _ _ _ _ b.val, zero_add]
    unfold corrAdd
    refine Finset.sum_congr rfl fun q _ => ?_
    rw [bin_word]
    have hd : k0_pay344 (wb t) (hb t) (ix2 q y) = BitVec.ofBool (decide (hb t (ix2 q y) ≠ wb t (ix2 q y))) := by
      generalize wb t = u
      generalize hb t = v
      pointwise [k0_pay344]
    rw [hd]
    generalize hb t (ix2 q y) = v
    generalize wb t (ix2 q y) = u
    generalize ((b.val : ℝ) : EReal) = w
    by_cases huv : v = u
    · subst huv
      have : ¬(v ≠ v) := fun h => h rfl
      rw [decide_eq_false this]
      have hz : ∀ P : Bool, Scalar.select (IntOp.andi (BitVec.ofBool false) (BitVec.ofBool P)) (1 : EReal) 0 = 0 := by
        intro P; cases P <;> rfl
      rw [hz, sub_zero]
      split_ifs
      · exact e1.symm
      · exact (sub_zero _).symm
    · rw [decide_eq_true huv]
      have hz : ∀ (P : Prop) [Decidable P], Scalar.select (IntOp.andi (BitVec.ofBool true) (BitVec.ofBool (decide P))) (1 : EReal) 0
          = if P then (1 : EReal) else 0 := by
        intro P _
        by_cases hP : P
        · rw [decide_eq_true hP, if_pos hP]; rfl
        · rw [decide_eq_false hP, if_neg hP]; rfl
      rw [hz, hz]
  simp only [e]
  rw [Finset.sum_comm]
  refine Finset.sum_congr rfl fun t _ => ?_
  rw [Finset.sum_comm]

/-! ## The windows' pixels -/

variable (m : (ℓ : Loc nD τ sig) → Buf (Elt Ideal) ℓ) (c : Dev nD)

/-- A pixel's predictions, -/
def rowK (n : Fin 2097152) : Fin 19 → EReal := fun k => m ((c : Thread nD τ).loc main_arg0)
  (ix4 (⟨n.val / 262144, by omega⟩ : Fin 8) k (⟨n.val / 512 % 512, by omega⟩ : Fin 512) (⟨n.val % 512, by omega⟩ : Fin 512))
/-- its class, -/
def clsK (n : Fin 2097152) : BitVec 32 := m ((c : Thread nD τ).loc main_arg1)
  (ix3 (⟨n.val / 262144, by omega⟩ : Fin 8) (⟨n.val / 512 % 512, by omega⟩ : Fin 512) (⟨n.val % 512, by omega⟩ : Fin 512))
/-- its cross entropy -/
def ceK (n : Fin 2097152) : EReal := ceE (rowK m c n) (clsK m c n)
/-- and its gradient. -/
def grK (n : Fin 2097152) : EReal := grE (rowK m c n) (clsK m c n)

/-- The pixel at a window's row and lane. -/
def pixel (t : Fin cfg0.N) (q : Fin 64) (l : Fin 512) : Fin 2097152 :=
  ⟨t.val * 32768 + q.val * 512 + l.val, by have : t.val < 64 := t.isLt; have := q.isLt; have := l.isLt; omega⟩

/-- The windows' block indices. -/
theorem idxs : ∀ t : Fin cfg0.N, win0_0.index t = ![t.val / 8, 0, t.val % 8, 0] ∧ win0_1.index t = ![t.val / 8, t.val % 8, 0] :=
  (by decide +kernel : ∀ t : Fin grid0.N, _)

/-- A window's predictions are its pixels'. -/
theorem iblk0_at (t : Fin cfg0.N) (q : Fin 64) (l : Fin 512) (k : Fin 19) :
    iblk m c 0 t (ix4 0 k q l) = rowK m c (pixel t q l) k := by
  have ht : t.val < 64 := t.isLt
  have hq := q.isLt
  have hl := l.isLt
  have h1 : (t.val * 32768 + q.val * 512 + l.val) / 262144 = t.val / 8 := by omega
  have h2 : (t.val * 32768 + q.val * 512 + l.val) / 512 % 512 = t.val % 8 * 64 + q.val := by omega
  have h3 : (t.val * 32768 + q.val * 512 + l.val) % 512 = l.val := by omega
  unfold rowK pixel
  blk_ext [iblk, V, idxs t]

/-- A window's classes are its pixels'. -/
theorem iblk1_at (t : Fin cfg0.N) (q : Fin 64) (l : Fin 512) :
    iblk m c 1 t (ix3 0 q l) = clsK m c (pixel t q l) := by
  have ht : t.val < 64 := t.isLt
  have hq := q.isLt
  have hl := l.isLt
  have h1 : (t.val * 32768 + q.val * 512 + l.val) / 262144 = t.val / 8 := by omega
  have h2 : (t.val * 32768 + q.val * 512 + l.val) / 512 % 512 = t.val % 8 * 64 + q.val := by omega
  have h3 : (t.val * 32768 + q.val * 512 + l.val) % 512 = l.val := by omega
  unfold clsK pixel
  blk_ext [iblk, V, idxs t]

/-- A window's predictions at a row and a lane. -/
theorem pix_at (t : Fin cfg0.N) (q : Fin 64) (l : Fin 512) : pix (iblk m c 0 t) q l = rowK m c (pixel t q l) :=
  funext fun k => iblk0_at m c t q l k

/-- A window's losses, at a row and a lane, -/
theorem ceP_at (t : Fin cfg0.N) (q : Fin 64) (l : Fin 512) : ceP m c t (ix2 q l) = ceK m c (pixel t q l) := by
  show ceE (pix (iblk m c 0 t) q l) (iblk m c 1 t (ix3 0 q l)) = _
  rw [pix_at, iblk1_at]
  rfl

/-- its bins for the weights, -/
theorem wbP_at (t : Fin cfg0.N) (q : Fin 64) (l : Fin 512) : wbP m c t (ix2 q l) = wbE (grK m c (pixel t q l)) := by
  show wbE (grE (pix (iblk m c 0 t) q l) (iblk m c 1 t (ix3 0 q l))) = _
  rw [pix_at, iblk1_at]
  rfl

/-- and for the counts. -/
theorem hbP_at (t : Fin cfg0.N) (q : Fin 64) (l : Fin 512) : hbP m c t (ix2 q l) = hbE (grK m c (pixel t q l)) := by
  show hbE (grE (pix (iblk m c 0 t) q l) (iblk m c 1 t (ix3 0 q l))) = _
  rw [pix_at, iblk1_at]
  rfl

/-- All pixels, window by window. -/
theorem sum_windows (f : Fin 2097152 → EReal) : ∑ t : Fin cfg0.N, ∑ q : Fin 64, ∑ l : Fin 512, f (pixel t q l) = ∑ n, f n :=
  (sum_pixels f).symm

end Cert.KernelIdeal.Ghm

end
-- ==== Proof.KernelIdeal.Value.lean ====
/-
The kernel's value: what it writes back at the last window is the loss of all pixels.
-/
module

public import proofs.«01_k».proof.Proof.KernelIdeal.Totals

@[expose] public section

set_option maxRecDepth 16384

noncomputable section

namespace Cert.KernelIdeal.Ghm

open Idealize.ShloMosaic Idealize.ShloMosaic.TcCoe
open Idealize.SL.Sem
open Idealize.ShloMosaic.Pipeline (Dat)
open Cert.KernelIdeal Cert.KernelIdeal.Gen
open Cert.Ghm

variable (m : (ℓ : Loc nD τ sig) → Buf (Elt Ideal) ℓ) (c : Dev nD)

/-- The windows' shares up to the last, over all windows. -/
theorem sum_all (f : ℕ → EReal) (g : Fin cfg0.N → EReal) (h : ∀ t : Fin cfg0.N, f t.val = g t) (n : ℕ) (hn : n = 63) :
    ∑ i ∈ Finset.range (n + 1), f i = ∑ t, g t := by
  subst hn
  show ∑ i ∈ Finset.range cfg0.N, f i = _
  rw [Finset.sum_range]
  exact Finset.sum_congr rfl fun t _ => h t

/-- A bin's part from running buffers that hold the windows' shares: over all pixels. -/
theorem binPart_eq (A : Carry Ideal) (ce : Fin cfg0.N → FVec Ideal S64x512 .f32) (ceN : Fin 2097152 → EReal)
    (hce : ∀ t q l, ce t (ix2 q l) = ceN (pixel t q l)) (s : Vec Ideal S240x512 .f32)
    (hs : ∀ y, s y = ∑ t, GS (ce t) (wbP m c t) (fun _ => 0) y)
    (hN : ∀ y, A.2.1 y = ∑ t, GS (fun _ => 1) (wbP m c t) (fun _ => 0) y)
    (hD : ∀ y, (y 0).val < 30 → A.2.2 y = ∑ t, GD (wbP m c t) (hbP m c t) (dmP m c t) (fun _ => 0) y) (b : Fin 30) :
    binPart (fun x => s ((rows8 b).emb x)) (fun x => A.2.1 ((rows8 b).emb x)) (fun x => A.2.2 ((row1 b).emb x))
      = part ceN (grK m c) b := by
  have eS := tot_S ce (wbP m c) s hs b
  have eN := tot_S (fun _ _ => 1) (wbP m c) A.2.1 hN b
  have eD := tot_D (wbP m c) (hbP m c) A.2.2 hD b
  simp only [hce, wbP_at, hbP_at] at eS eN eD
  rw [sum_windows (fun n => if wbE (grK m c n) = ((b.val : ℝ) : EReal) then ceN n else 0)] at eS
  rw [sum_windows (fun n => if wbE (grK m c n) = ((b.val : ℝ) : EReal) then (1 : EReal) else 0)] at eN
  rw [sum_windows (fun n => (if hbE (grK m c n) = ((b.val : ℝ) : EReal) then (1 : EReal) else 0)
    - (if wbE (grK m c n) = ((b.val : ℝ) : EReal) then (1 : EReal) else 0))] at eD
  unfold binPart part
  dsimp only
  rw [eS, eN, eD, count_eq]

/-- What the last window writes. -/
theorem out_loss (t : Fin cfg0.N) (ht : t.val = 63) (y : S8x128.Idx) : outAt m c t y = loss (ceK m c) (grK m c) := by
  have h2 : isLast (grid0.coords t) := (isLast_iff t).mpr ht
  have h0 : ¬isFirst (grid0.coords t) := fun h => by have := (isFirst_iff t).mp h; omega
  obtain ⟨hS, hN, hD⟩ := carry_eq m c t.val t.isLt
  have hS' : ∀ y, (carry m c t.val t.isLt).1 y = ∑ t, GS (ceP m c t) (wbP m c t) (fun _ => 0) y := fun y => by
    rw [hS]
    exact sum_all _ _ (fun i => by unfold shareS; rw [dif_pos i.isLt]) _ ht
  have hN' : ∀ y, (carry m c t.val t.isLt).2.1 y = ∑ t, GS (fun _ => 1) (wbP m c t) (fun _ => 0) y := fun y => by
    rw [hN]
    exact sum_all _ _ (fun i => by unfold shareN; rw [dif_pos i.isLt]) _ ht
  have hD' : ∀ y, (y 0).val < 30 → (carry m c t.val t.isLt).2.2 y
      = ∑ t, GD (wbP m c t) (hbP m c t) (dmP m c t) (fun _ => 0) y := fun y hy => by
    rw [hD y hy]
    exact sum_all _ _ (fun i => by unfold shareD; rw [dif_pos i.isLt]) _ ht
  rw [outAt_last m c t h0 h2, result_eq m c t h0 h2 _ y (carry m c t.val t.isLt) (carry_last m c t h0 h2)]
  generalize carry m c t.val t.isLt = A at *
  unfold loss
  simp only [binPart_eq m c A (ceP m c) (ceK m c) (ceP_at m c) A.1 hS' hN' hD',
    binPart_eq m c A (fun _ _ => 1) (fun _ => 1) (fun _ _ _ => rfl) A.2.1 hN' hN' hD']

/-- What the last window leaves in the result's block. -/
theorem after_loss (t : Fin cfg0.N) (ht : t.val = 63) (y : S8x128.Idx) : (dats m 0 c).after 2 t y = loss (ceK m c) (grK m c) := by
  rw [after_2]
  exact out_loss m c t ht y

/-- The result's array after the run. -/
theorem final : (dats m 0 c).arrAt 2 (cfgs 0).N = fun _ => loss (ceK m c) (grK m c) := by
  refine (dats m 0 c).arrAt_eq_of_after_last 2 ⟨63, by decide⟩ (by decide +kernel) _ fun j => ?_
  blk_simp
  exact after_loss m c ⟨63, by decide⟩ rfl _

variable (ρ : Dev nD → PrngReg)

/-- The host's last steps take one entry of the result's array. -/
theorem tail_at (c : Dev nD) : Pipeline.afterTail₀ cfgs (dats m) 0 (V0 m) [hostOps1] c main_v2
    = fun _ => loss (ceK m c) (grK m c) := by
  unfold Pipeline.afterTail₀
  simp only [List.flatten_cons, List.flatten_nil, List.append_nil]
  rw [StableHlo.after_cons, StableHlo.after_cons, StableHlo.after_nil]
  rw [StableHlo.reshape_result, StableHlo.unary_result]
  have h : (Pipeline.withArrays (cfgs 0).spec c (V0 m c) fun w => (dats m 0 c).arrAt w (cfgs 0).N) (Proc.devRef .tc main_v0)
      = fun _ => loss (ceK m c) (grK m c) :=
    (Pipeline.withArrays_arr (cfgs 0).spec launch0.win.arr_inj c (V0 m c) _ 2).trans (final m c)
  rw [h]
  rfl

/-- The kernel's run: its result is the loss, its arguments end unchanged. -/
theorem run_loss : θ_run defs (onTc (τ := τ) (main (F := Ideal))) ⟨m, fun _ => 0, ρ⟩ (fun r => ∀ c : Dev nD,
      r.2.mem ((c.tc : Thread nD τ).loc main_v2) = (fun _ => loss (ceK m c) (grK m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v2 (by decide)).trans (tail_at m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Ghm

end
-- ==== Proof.ReferenceIdeal.Value.lean ====
/-
The reference's result, its composed term cut into the steps of the problem, each read at an index.
-/
module

public import proofs.«01_k».proof.Proof.Gen.ReferenceIdeal.Run
public import Idealize.ShloMosaic.Lib.Pointwise

@[expose] public section

set_option maxRecDepth 16384

noncomputable section

namespace Cert.ReferenceIdeal.Ghm

open Idealize.ShloMosaic Idealize.ShloMosaic.TcCoe Idealize.SL.Sem
open Cert.ReferenceIdeal Cert.ReferenceIdeal.Gen

variable (X : FVec Ideal S8x19x512x512 .f32) (T : IVec S8x512x512 32)

/-- The predictions, a row for each pixel. -/
def pV : FVec Ideal S2097152x19 .f32 :=
  shapeCast _ (transpose S8x512x512x19 [0, 2, 3, 1] X transposes_S8x19x512x512_S8x512x512x19_0_2_3_1) shapeCasts_S8x512x512x19_S2097152x19

/-- The targets, one for each pixel. -/
def tV : IVec S2097152 32 := shapeCast _ T shapeCasts_S8x512x512_S2097152

/-- The maximum over the classes. -/
def foldV : FVec Ideal S2097152 .f32 :=
  Host.reduce FloatOps.maximumf (pV X) (constant S_ .f32 0xFF800000#32) reducesTo_S2097152x19_S2097152_d1 h_S_

/-- Each pixel's largest prediction, as a function of the earlier steps. -/
def mxOf (A : FVec Ideal S2097152 .f32) :
    FVec Ideal S2097152 .f32 :=
  maximumf (broadcastInDim S2097152 ![] bcast_S_S2097152 (constant S_ .f32 0xFF800000#32)) A

/-- Each pixel's largest prediction. -/
def mxV : FVec Ideal S2097152 .f32 := mxOf (foldV X)

/-- The predictions less their largest, as a function of the earlier steps. -/
def shOf (X : FVec Ideal S8x19x512x512 .f32) (M : FVec Ideal S2097152 .f32) :
    FVec Ideal S2097152x19 .f32 :=
  subf (pV X) (broadcastInDim S2097152x19 ![0, 1] bcast_S2097152x1_S2097152x19_0_1 (broadcastInDim S2097152x1
    ![0] bcast_S2097152_S2097152x1_0 M))

/-- The predictions less their largest. -/
def shV : FVec Ideal S2097152x19 .f32 := shOf X (mxV X)

/-- One at a pixel's class, zero at the others. -/
def ohV : FVec Ideal S2097152x19 .f32 :=
  uitofp .f32 (cmpi .eq (broadcastInDim S2097152x19 ![0, 1] bcast_S2097152x1_S2097152x19_0_1 (broadcastInDim
    S2097152x1 ![0] bcast_S2097152_S2097152x1_0 (tV T))) (broadcastInDim S2097152x19 ![0, 1]
    bcast_S1x19_S2097152x19_0_1 (broadcastInDim S1x19 ![1] bcast_S19_S1x19_1 (iotaInDim S19 32 0))))

/-- The sum of each pixel's shifted exponentials, as a function of the earlier steps. -/
def sumsOf (D : FVec Ideal S2097152x19 .f32) :
    FVec Ideal S2097152 .f32 :=
  Host.reduceAdd (Host.exp D) (constant S_ .f32 0x00000000#32) reducesTo_S2097152x19_S2097152_d1 h_S_

/-- The sum of each pixel's shifted exponentials. -/
def sumsV : FVec Ideal S2097152 .f32 := sumsOf (shV X)

/-- Which pixels count: those whose target is not -1. -/
def maskV : IVec S2097152 1 :=
  cmpi .ne (tV T) (broadcastInDim S2097152 ![] bcast_S_S2097152 (constantI S_ 32 4294967295#32))

/-- The probability of each pixel's class, as a function of the earlier steps. -/
def probOf (D : FVec Ideal S2097152x19 .f32) (S : FVec Ideal S2097152 .f32) (O : FVec Ideal S2097152x19 .f32) :
    FVec Ideal S2097152 .f32 :=
  Host.reduceAdd (mulf (Host.divf (Host.exp D) (broadcastInDim S2097152x19 ![0, 1]
    bcast_S2097152x1_S2097152x19_0_1 (broadcastInDim S2097152x1 ![0] bcast_S2097152_S2097152x1_0 S))) O)
    (constant S_ .f32 0x00000000#32) reducesTo_S2097152x19_S2097152_d1 h_S_

/-- The probability of each pixel's class. -/
def probV : FVec Ideal S2097152 .f32 := probOf (shV X) (sumsV X) (ohV T)

/-- Each pixel's gradient: the distance of its class's probability from one, as a function of the earlier steps. -/
def gradOf (K : IVec S2097152 1) (P : FVec Ideal S2097152 .f32) :
    FVec Ideal S2097152 .f32 :=
  select K (Host.absf (subf P (broadcastInDim S2097152 ![] bcast_S_S2097152 (constant S_ .f32
    0x3F800000#32)))) (broadcastInDim S2097152 ![] bcast_S_S2097152 (constant S_ .f32 0xBF800000#32))

/-- Each pixel's gradient: the distance of its class's probability from one. -/
def gradV : FVec Ideal S2097152 .f32 := gradOf (maskV T) (probV X T)

/-- The log-probability of each pixel's class, as a function of the earlier steps. -/
def logpOf (D : FVec Ideal S2097152x19 .f32) (S : FVec Ideal S2097152 .f32) (O : FVec Ideal S2097152x19 .f32) :
    FVec Ideal S2097152 .f32 :=
  Host.reduceAdd (mulf (subf D (broadcastInDim S2097152x19 ![0, 1] bcast_S2097152x1_S2097152x19_0_1 (Host.log
    (broadcastInDim S2097152x1 ![0] bcast_S2097152_S2097152x1_0 S)))) O) (constant S_ .f32 0x00000000#32)
    reducesTo_S2097152x19_S2097152_d1 h_S_

/-- The log-probability of each pixel's class. -/
def logpV : FVec Ideal S2097152 .f32 := logpOf (shV X) (sumsV X) (ohV T)

/-- Each pixel's cross entropy, as a function of the earlier steps. -/
def ceOf (K : IVec S2097152 1) (L : FVec Ideal S2097152 .f32) :
    FVec Ideal S2097152 .f32 :=
  select K (Host.negf L) (broadcastInDim S2097152 ![] bcast_S_S2097152 (constant S_ .f32 0x00000000#32))

/-- Each pixel's cross entropy. -/
def ceV : FVec Ideal S2097152 .f32 := ceOf (maskV T) (logpV X T)

/-- The bins' lower edges. -/
def loV : FVec Ideal S30 .f32 :=
  Host.divf (sitofp .f32 (iotaInDim S30 32 0)) (broadcastInDim S30 ![] bcast_S_S30 (constant S_ .f32 0x41F00000#32))

/-- The bins' upper edges. -/
def hiV : FVec Ideal S30 .f32 :=
  Host.divf (sitofp .f32 (addi (iotaInDim S30 32 0) (broadcastInDim S30 ![] bcast_S_S30 (constantI S_ 32 1#32))))
    (broadcastInDim S30 ![] bcast_S_S30 (constant S_ .f32 0x41F00000#32))

/-- Which bin is the last. -/
def lastV : IVec S30 1 :=
  cmpi .eq (iotaInDim S30 32 0) (broadcastInDim S30 ![] bcast_S_S30 (constantI S_ 32 29#32))

/-- The histogram of the gradients, as a function of the earlier steps. -/
def accOf (G : FVec Ideal S2097152 .f32) :
    FVec Ideal S30 .f32 :=
  Host.reduceAdd (uitofp .f32 (andi (cmpf .ole (broadcastInDim S2097152x30 ![0, 1] bcast_S1x30_S2097152x30_0_1
    (broadcastInDim S1x30 ![1] bcast_S30_S1x30_1 loV)) (broadcastInDim S2097152x30 ![0, 1]
    bcast_S2097152x1_S2097152x30_0_1 (broadcastInDim S2097152x1 ![0] bcast_S2097152_S2097152x1_0 G))) (ori
    (cmpf .olt (broadcastInDim S2097152x30 ![0, 1] bcast_S2097152x1_S2097152x30_0_1 (broadcastInDim S2097152x1
    ![0] bcast_S2097152_S2097152x1_0 G)) (broadcastInDim S2097152x30 ![0, 1] bcast_S1x30_S2097152x30_0_1
    (broadcastInDim S1x30 ![1] bcast_S30_S1x30_1 hiV))) (andi (broadcastInDim S2097152x30 ![0, 1]
    bcast_S1x30_S2097152x30_0_1 (broadcastInDim S1x30 ![1] bcast_S30_S1x30_1 lastV)) (cmpf .oeq
    (broadcastInDim S2097152x30 ![0, 1] bcast_S2097152x1_S2097152x30_0_1 (broadcastInDim S2097152x1 ![0]
    bcast_S2097152_S2097152x1_0 G)) (broadcastInDim S2097152x30 ![0, 1] bcast_S1x30_S2097152x30_0_1
    (broadcastInDim S1x30 ![1] bcast_S30_S1x30_1 hiV))))))) (constant S_ .f32 0x00000000#32)
    reducesTo_S2097152x30_S30_d0 h_S_

/-- The histogram of the gradients. -/
def accV : FVec Ideal S30 .f32 := accOf (gradV X T)

/-- Each pixel's weight, as a function of the earlier steps. -/
def wOf (G : FVec Ideal S2097152 .f32) (A : FVec Ideal S30 .f32) :
    FVec Ideal S2097152 .f32 :=
  Host.reduceAdd (select (andi (cmpf .olt (broadcastInDim S2097152x30 ![0, 1] bcast_S1x30_S2097152x30_0_1
    (broadcastInDim S1x30 ![1] bcast_S30_S1x30_1 loV)) (broadcastInDim S2097152x30 ![0, 1]
    bcast_S2097152x1_S2097152x30_0_1 (broadcastInDim S2097152x1 ![0] bcast_S2097152_S2097152x1_0 G))) (cmpf
    .ole (broadcastInDim S2097152x30 ![0, 1] bcast_S2097152x1_S2097152x30_0_1 (broadcastInDim S2097152x1 ![0]
    bcast_S2097152_S2097152x1_0 G)) (broadcastInDim S2097152x30 ![0, 1] bcast_S1x30_S2097152x30_0_1 (select
    (broadcastInDim S1x30 ![1] bcast_S30_S1x30_1 lastV) (addf (broadcastInDim S1x30 ![1] bcast_S30_S1x30_1
    hiV) (broadcastInDim S1x30 ![] bcast_S_S1x30 (constant S_ .f32 0x3A83126F#32))) (broadcastInDim S1x30 ![1]
    bcast_S30_S1x30_1 hiV))))) (broadcastInDim S2097152x30 ![0, 1] bcast_S1x30_S2097152x30_0_1 (broadcastInDim
    S1x30 ![1] bcast_S30_S1x30_1 (Host.divf (broadcastInDim S30 ![] bcast_S_S30 (constant S_ .f32
    0x3F800000#32)) A))) (broadcastInDim S2097152x30 ![] bcast_S_S2097152x30 (constant S_ .f32
    0x00000000#32))) (constant S_ .f32 0x00000000#32) reducesTo_S2097152x30_S2097152_d1 h_S_

/-- Each pixel's weight. -/
def wV : FVec Ideal S2097152 .f32 := wOf (gradV X T) (accV X T)

/-- The sum of the weighted losses, as a function of the earlier steps. -/
def numOf (C : FVec Ideal S2097152 .f32) (W : FVec Ideal S2097152 .f32) :
    FVec Ideal S_ .f32 :=
  Host.reduceAdd (mulf C W) (constant S_ .f32 0x00000000#32) reducesTo_S2097152_S_d0 h_S_

/-- The sum of the weighted losses. -/
def numV : FVec Ideal S_ .f32 := numOf (ceV X T) (wV X T)

/-- The sum of the weights, as a function of the earlier steps. -/
def denOf (W : FVec Ideal S2097152 .f32) :
    FVec Ideal S_ .f32 :=
  Host.reduceAdd W (constant S_ .f32 0x00000000#32) reducesTo_S2097152_S_d0 h_S_

/-- The sum of the weights. -/
def denV : FVec Ideal S_ .f32 := denOf (wV X T)

/-- The loss, as a function of the earlier steps. -/
def resOf (N : FVec Ideal S_ .f32) (D : FVec Ideal S_ .f32) :
    FVec Ideal S_ .f32 :=
  Host.divf N (addf D (constant S_ .f32 0x33D6BF95#32))

/-- The loss. -/
def resV : FVec Ideal S_ .f32 := resOf (numV X T) (denV X T)

/-- The reference's composed term is the last step. -/
theorem res_eq (m : (ℓ : Loc nD τ sig) → Buf (Elt Ideal) ℓ) (c : Dev nD) :
    Cert.ReferenceIdeal.Value.res_main_v83 m c
      = resV (m ((c.tc : Thread nD τ).loc main_arg0)) (m ((c.tc : Thread nD τ).loc main_arg1)) := rfl

/-! ### Each step read at an index -/

/-- A pixel's prediction of a class, in the array of predictions. -/
theorem p_at (n : Fin 2097152) (k : Fin 19) : pV X (ix2 n k)
    = X (ix4 (⟨n.val / 262144, by omega⟩ : Fin 8) k (⟨n.val / 512 % 512, by omega⟩ : Fin 512) (⟨n.val % 512, by omega⟩ : Fin 512)) := by
  pointwise [pV]

/-- A pixel's target, in the array of targets. -/
theorem t_at (n : Fin 2097152) : tV T (ix1 n)
    = T (ix3 (⟨n.val / 262144, by omega⟩ : Fin 8) (⟨n.val / 512 % 512, by omega⟩ : Fin 512) (⟨n.val % 512, by omega⟩ : Fin 512)) := by
  pointwise [tV]

/-- The maximum over the classes is a fold over them. -/
theorem fold_at (n : Fin 2097152) : foldV X (ix1 n)
    = Finset.fold max (Ideal.ofBits .f32 4286578688#32) (fun k : Fin 19 => pV X (ix2 n k)) Finset.univ := by
  pointwise [foldV]

/-- The step of the maximum, at a pixel. -/
theorem mxOf_at (A : FVec Ideal S2097152 .f32) (n : Fin 2097152) :
    mxOf A (ix1 n) = max (Ideal.ofBits .f32 4286578688#32) (A (ix1 n)) := by
  pointwise [mxOf]

/-- The step of the shifted predictions, at a pixel and a class. -/
theorem shOf_at (M : FVec Ideal S2097152 .f32) (n : Fin 2097152) (k : Fin 19) :
    shOf X M (ix2 n k) = pV X (ix2 n k) - M (ix1 n) := by
  pointwise [shOf]

/-- One at the target's class, zero elsewhere, at a pixel and a class. -/
theorem oh_at (n : Fin 2097152) (k : Fin 19) :
    ohV T (ix2 n k) = FloatOps.uitofp (F := Ideal) .f32 (IntOp.cmpi .eq (tV T (ix1 n)) (BitVec.ofNat 32 k.val)) := by
  pointwise [ohV]

/-- The step of the sums of exponentials, at a pixel. -/
theorem sumsOf_at (D : FVec Ideal S2097152x19 .f32) (n : Fin 2097152) :
    sumsOf D (ix1 n) = ∑ k : Fin 19, Ideal.exp (D (ix2 n k)) := by
  pointwise [sumsOf]

/-- The mask, at a pixel. -/
theorem mask_at (n : Fin 2097152) : maskV T (ix1 n) = IntOp.cmpi .ne (tV T (ix1 n)) 4294967295#32 := by
  pointwise [maskV]

/-- The step of the probability, at a pixel. -/
theorem probOf_at (D : FVec Ideal S2097152x19 .f32) (S : FVec Ideal S2097152 .f32) (O : FVec Ideal S2097152x19 .f32)
    (n : Fin 2097152) : probOf D S O (ix1 n)
      = ∑ k : Fin 19, Ideal.div (Ideal.exp (D (ix2 n k))) (S (ix1 n)) * O (ix2 n k) := by
  pointwise [probOf]

/-- The step of the gradient, at a pixel. -/
theorem gradOf_at (K : IVec S2097152 1) (P : FVec Ideal S2097152 .f32) (n : Fin 2097152) :
    gradOf K P (ix1 n) = Scalar.select (K (ix1 n)) (FloatOps.absf (F := Ideal) (φ := .f32) (P (ix1 n) - 1)) (Ideal.ofBits .f32 3212836864#32) := by
  pointwise [gradOf]

/-- The step of the log-probability, at a pixel. -/
theorem logpOf_at (D : FVec Ideal S2097152x19 .f32) (S : FVec Ideal S2097152 .f32) (O : FVec Ideal S2097152x19 .f32)
    (n : Fin 2097152) : logpOf D S O (ix1 n)
      = ∑ k : Fin 19, (D (ix2 n k) - Ideal.log (S (ix1 n))) * O (ix2 n k) := by
  pointwise [logpOf]

/-- The step of the cross entropy, at a pixel. -/
theorem ceOf_at (K : IVec S2097152 1) (L : FVec Ideal S2097152 .f32) (n : Fin 2097152) :
    ceOf K L (ix1 n) = Scalar.select (K (ix1 n)) (-L (ix1 n)) 0 := by
  pointwise [ceOf]

/-- The lower edge of a bin. -/
def loE (b : Fin 30) : EReal := Ideal.div (FloatOps.sitofp (F := Ideal) .f32 (BitVec.ofNat 32 b.val)) (Ideal.ofBits .f32 1106247680#32)

/-- The upper edge of a bin. -/
def hiE (b : Fin 30) : EReal :=
  Ideal.div (FloatOps.sitofp (F := Ideal) .f32 (IntOp.addi (BitVec.ofNat 32 b.val) 1#32)) (Ideal.ofBits .f32 1106247680#32)

/-- The step of the histogram, at a bin. -/
theorem accOf_at (G : FVec Ideal S2097152 .f32) (b : Fin 30) : accOf G (ix1 b)
    = ∑ n : Fin 2097152, FloatOps.uitofp (F := Ideal) .f32 (IntOp.andi (BitVec.ofBool (decide (loE b ≤ G (ix1 n))))
        (IntOp.ori (BitVec.ofBool (decide (G (ix1 n) < hiE b)))
          (IntOp.andi (IntOp.cmpi .eq (BitVec.ofNat 32 b.val) 29#32) (BitVec.ofBool (decide (G (ix1 n) = hiE b)))))) := by
  unfold loE hiE
  pointwise [accOf, loV, hiV, lastV]

/-- The step of the weights, at a pixel. -/
theorem wOf_at (G : FVec Ideal S2097152 .f32) (A : FVec Ideal S30 .f32) (n : Fin 2097152) : wOf G A (ix1 n)
    = ∑ b : Fin 30, Scalar.select (IntOp.andi (BitVec.ofBool (decide (loE b < G (ix1 n))))
        (BitVec.ofBool (decide (G (ix1 n) ≤ Scalar.select (IntOp.cmpi .eq (BitVec.ofNat 32 b.val) 29#32)
          (hiE b + Ideal.ofBits .f32 981668463#32) (hiE b))))) (Ideal.div 1 (A (ix1 b))) 0 := by
  unfold loE hiE
  pointwise [wOf, loV, hiV, lastV]

/-- The step of the weighted loss. -/
theorem numOf_at (C W : FVec Ideal S2097152 .f32) : numOf C W ix0 = ∑ n : Fin 2097152, C (ix1 n) * W (ix1 n) := by
  pointwise [numOf]

/-- The step of the sum of weights. -/
theorem denOf_at (W : FVec Ideal S2097152 .f32) : denOf W ix0 = ∑ n : Fin 2097152, W (ix1 n) := by
  pointwise [denOf]

/-- The step of the result. -/
theorem resOf_at (N D : FVec Ideal S_ .f32) : resOf N D ix0 = Ideal.div (N ix0) (D ix0 + Ideal.ofBits .f32 869711765#32) := by
  pointwise [resOf]

end Cert.ReferenceIdeal.Ghm

end
-- ==== Proof.PixelReal.lean ====
/-
A pixel of the loss on real predictions: the cross entropy is a positive real, the gradient a real strictly between zero and one,
and the two bins of such a gradient are the intervals of a thirtieth that hold it.
-/
module

public import proofs.«01_k».proof.Proof.Pixel
public import Mathlib.Tactic.Linarith
public import Mathlib.Tactic.NormNum
public import Mathlib.Tactic.Positivity
public import Mathlib.Tactic.IntervalCases

@[expose] public section

set_option maxRecDepth 16384

noncomputable section

namespace Cert.Ghm

open Idealize.ShloMosaic

/-! ## The classes' folds as sums and suprema -/

/-- No prediction exceeds the largest. -/
theorem le_mxE (p : Fin 19 → EReal) (k : Fin 19) : p k ≤ mxE p := by
  obtain ⟨c, hc⟩ : ∃ c, c = mxE p := ⟨_, rfl⟩
  have h : mxE p ≤ c := hc.ge
  rw [← hc]
  unfold mxE at h
  simp only [max_le_iff, and_assoc] at h
  obtain ⟨h0, h1, h2, h3, h4, h5, h6, h7, h8, h9, h10, h11, h12, h13, h14, h15, h16, h17, h18⟩ := h
  obtain ⟨k, hk⟩ := k
  interval_cases k <;> assumption

/-- A bound of all predictions bounds the largest. -/
theorem mxE_le (p : Fin 19 → EReal) (c : EReal) (h : ∀ k, p k ≤ c) : mxE p ≤ c := by
  unfold mxE
  simp only [max_le_iff, h, and_self]

/-- The largest prediction is the fold of the maximum. -/
theorem mxE_eq_fold (p : Fin 19 → EReal) : mxE p = Finset.fold max ⊥ p Finset.univ := by
  refine le_antisymm (mxE_le p _ fun k => ?_) (Finset.fold_max_le _ |>.mpr ⟨bot_le, fun k _ => le_mxE p k⟩)
  exact Finset.le_fold_max _ |>.mpr (Or.inr ⟨k, Finset.mem_univ _, le_rfl⟩)

/-- The sum of the shifted exponentials, as a sum. -/
theorem dnE_eq_sum (p : Fin 19 → EReal) : dnE p = ∑ k, Ideal.exp (p k - mxE p) := by
  unfold dnE
  generalize mxE p = M
  simp only [Fin.sum_univ_castSucc, Fin.sum_univ_zero, zero_add]
  rfl

/-- The target's prediction, as a sum. -/
theorem ptE_eq_sum (p : Fin 19 → EReal) (t : BitVec 32) :
    ptE p t = ∑ k : Fin 19, Scalar.select (IntOp.cmpi .eq t (BitVec.ofNat 32 k.val)) (p k) 0 := by
  unfold ptE
  simp only [Fin.sum_univ_castSucc, Fin.sum_univ_zero, zero_add]
  rfl

/-- A class's word is another's only if the classes are the same. -/
theorem cls_eq (j k : Fin 19) : IntOp.cmpi .eq (BitVec.ofNat 32 j.val) (BitVec.ofNat 32 k.val) = if k = j then 1#1 else 0#1 := by
  revert j k
  decide

/-- The target's prediction. -/
theorem ptE_cls (p : Fin 19 → EReal) (j : Fin 19) : ptE p (BitVec.ofNat 32 j.val) = p j := by
  rw [ptE_eq_sum, Finset.sum_eq_single j]
  · rw [cls_eq, if_pos rfl]; rfl
  · intro k _ hk
    rw [cls_eq, if_neg hk]; rfl
  · intro h; exact absurd (Finset.mem_univ j) h

/-- The largest of real predictions is one of them. -/
theorem mxE_real (r : Fin 19 → ℝ) : ∃ M : ℝ, mxE (fun k => (r k : EReal)) = (M : EReal) := by
  have hc : ∀ a b : ℝ, max (a : EReal) (b : EReal) = ((max a b : ℝ) : EReal) := fun a b =>
    (EReal.coe_strictMono.monotone.map_max).symm
  unfold mxE
  simp only [hc]
  exact ⟨_, rfl⟩

/-- The finite sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real. -/
theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- What a pixel's numbers are, on real predictions: with `M` the largest and `D` the sum of the shifted exponentials. -/
theorem pixel_real (r : Fin 19 → ℝ) (j : Fin 19) : ∃ M D : ℝ,
    mxE (fun k => (r k : EReal)) = (M : EReal) ∧ dnE (fun k => (r k : EReal)) = (D : EReal) ∧ 0 < D ∧
    Real.exp (r j - M) < D ∧
    ceE (fun k => (r k : EReal)) (BitVec.ofNat 32 j.val) = ((Real.log D - (r j - M) : ℝ) : EReal) ∧
    grE (fun k => (r k : EReal)) (BitVec.ofNat 32 j.val) = ((1 - Real.exp (r j - M) / D : ℝ) : EReal) := by
  obtain ⟨M, hM⟩ := mxE_real r
  have hD : dnE (fun k => (r k : EReal)) = ((∑ k, Real.exp (r k - M) : ℝ) : EReal) := by
    rw [dnE_eq_sum, hM, coe_sum]
    refine Finset.sum_congr rfl fun k _ => ?_
    rw [← EReal.coe_sub]
    rfl
  have hpos : 0 < ∑ k, Real.exp (r k - M) := Finset.sum_pos (fun k _ => Real.exp_pos _) Finset.univ_nonempty
  have hlt : Real.exp (r j - M) < ∑ k, Real.exp (r k - M) := by
    obtain ⟨i, hi⟩ : ∃ i : Fin 19, i ≠ j := by
      by_cases h : (0 : Fin 19) = j
      · exact ⟨1, by rw [← h]; decide⟩
      · exact ⟨0, h⟩
    exact Finset.single_lt_sum (f := fun k => Real.exp (r k - M)) hi (Finset.mem_univ j) (Finset.mem_univ i) (Real.exp_pos _) fun k _ _ => (Real.exp_pos _).le
  refine ⟨M, _, hM, hD, hpos, hlt, ?_, ?_⟩
  · unfold ceE
    rw [hM, hD, ptE_cls, ← EReal.coe_sub]
    show (if (∑ k, Real.exp (r k - M)) ≤ 0 then (⊥ : EReal) else ((Real.log (∑ k, Real.exp (r k - M)) : ℝ) : EReal)) - _ = _
    rw [if_neg (not_le.mpr hpos), ← EReal.coe_sub]
  · unfold grE
    rw [hM, hD, ptE_cls, ← EReal.coe_sub]
    show max (Ideal.div ((Real.exp (r j - M) : ℝ) : EReal) _ - 1) (-(Ideal.div ((Real.exp (r j - M) : ℝ) : EReal) _ - 1)) = _
    rw [div_real _ _ hpos.ne', ← EReal.coe_one, ← EReal.coe_sub, ← EReal.coe_neg]
    have hq : Real.exp (r j - M) / (∑ k, Real.exp (r k - M)) < 1 := (div_lt_one hpos).mpr hlt
    rw [max_eq_right (by exact_mod_cast (by linarith : Real.exp (r j - M) / (∑ k, Real.exp (r k - M)) - 1 ≤ -(Real.exp (r j - M) / (∑ k, Real.exp (r k - M)) - 1)))]
    congr 1
    ring

/-- The cross entropy is a positive real and the gradient a real strictly between zero and one. -/
theorem pixel_bounds (p : Fin 19 → EReal) (r : Fin 19 → ℝ) (hp : ∀ k, p k = (r k : EReal)) (j : Fin 19) :
    (∃ e : ℝ, 0 < e ∧ ceE p (BitVec.ofNat 32 j.val) = (e : EReal)) ∧
    ∃ g : ℝ, 0 < g ∧ g < 1 ∧ grE p (BitVec.ofNat 32 j.val) = (g : EReal) := by
  obtain rfl : p = fun k => (r k : EReal) := funext hp
  obtain ⟨M, D, hM, hD, hpos, hlt, hce, hgr⟩ := pixel_real r j
  refine ⟨⟨_, ?_, hce⟩, _, ?_, ?_, hgr⟩
  · have := Real.log_lt_log (Real.exp_pos _) hlt
    rw [Real.log_exp] at this
    linarith
  · have := (div_lt_one hpos).mpr hlt
    linarith
  · have := div_pos (Real.exp_pos (r j - M)) hpos
    linarith

/-! ## The reference's form of a pixel -/

/-- The reference's sum over the classes, all but the target's zeroed by a product. -/
theorem sum_onehot (f : Fin 19 → EReal) (j : Fin 19) :
    ∑ k : Fin 19, f k * FloatOps.uitofp (F := Ideal) .f32 (IntOp.cmpi .eq (BitVec.ofNat 32 j.val) (BitVec.ofNat 32 k.val)) = f j := by
  have h1 : FloatOps.uitofp (F := Ideal) .f32 (1#1) = (1 : EReal) := by
    show (((1#1 : BitVec 1).toNat : ℝ) : EReal) = 1
    simp
  have h0 : FloatOps.uitofp (F := Ideal) .f32 (0#1) = (0 : EReal) := by
    show (((0#1 : BitVec 1).toNat : ℝ) : EReal) = 0
    simp
  rw [Finset.sum_eq_single j]
  · rw [cls_eq, if_pos rfl, h1]; exact mul_one _
  · intro k _ hk
    rw [cls_eq, if_neg hk, h0]; exact mul_zero _
  · intro h; exact absurd (Finset.mem_univ j) h

/-- The reference's cross entropy is the kernel's. -/
theorem ref_ce (p : Fin 19 → EReal) (r : Fin 19 → ℝ) (hp : ∀ k, p k = (r k : EReal)) (j : Fin 19) :
    -(∑ k : Fin 19, ((p k - mxE p) - Ideal.log (dnE p))
        * FloatOps.uitofp (F := Ideal) .f32 (IntOp.cmpi .eq (BitVec.ofNat 32 j.val) (BitVec.ofNat 32 k.val)))
      = ceE p (BitVec.ofNat 32 j.val) := by
  obtain rfl : p = fun k => (r k : EReal) := funext hp
  obtain ⟨M, D, hM, hD, hpos, hlt, hce, hgr⟩ := pixel_real r j
  rw [sum_onehot (fun k => ((r k : EReal) - mxE fun k => (r k : EReal)) - Ideal.log (dnE fun k => (r k : EReal))), hM, hD, hce]
  show -(((r j : EReal) - (M : EReal)) - (if D ≤ 0 then (⊥ : EReal) else ((Real.log D : ℝ) : EReal))) = _
  rw [if_neg (not_le.mpr hpos), ← EReal.coe_sub, ← EReal.coe_sub, ← EReal.coe_neg]
  congr 1
  ring

/-- The reference's gradient is the kernel's. -/
theorem ref_gr (p : Fin 19 → EReal) (j : Fin 19) :
    FloatOps.absf (F := Ideal) (φ := .f32) ((∑ k : Fin 19, Ideal.div (Ideal.exp (p k - mxE p)) (dnE p)
        * FloatOps.uitofp (F := Ideal) .f32 (IntOp.cmpi .eq (BitVec.ofNat 32 j.val) (BitVec.ofNat 32 k.val))) - 1)
      = grE p (BitVec.ofNat 32 j.val) := by
  rw [sum_onehot (fun k => Ideal.div (Ideal.exp (p k - mxE p)) (dnE p))]
  unfold grE
  rw [ptE_cls]

end Cert.Ghm

end
-- ==== Proof.ReferenceIdeal.Loss.lean ====
/-
The reference's value on real predictions and classes that exist: the loss as it is added up bin by bin.
-/
module

public import proofs.«01_k».proof.Proof.ReferenceIdeal.Value
public import proofs.«01_k».proof.Proof.PixelReal
public import proofs.«01_k».proof.Proof.Bins
public import proofs.«01_k».proof.Proof.Weigh
public import proofs.«01_k».proof.Proof.Loss

@[expose] public section

set_option maxRecDepth 16384

noncomputable section

namespace Cert.ReferenceIdeal.Ghm

open Idealize.ShloMosaic Idealize.ShloMosaic.TcCoe
open Cert.ReferenceIdeal Cert.ReferenceIdeal.Gen
open Cert.Ghm

/-! ## The edges -/

/-- A lower edge. -/
theorem loE_real (b : Fin 30) : loE b = (((b.val : ℝ) / 30 : ℝ) : EReal) := by
  have h : (BitVec.ofNat 32 b.val).toInt = (b.val : ℤ) := by revert b; decide
  unfold loE
  rw [word30]
  show Ideal.div (((BitVec.ofNat 32 b.val).toInt : ℝ) : EReal) _ = _
  rw [h, div30]
  norm_num

/-- An upper edge. -/
theorem hiE_real (b : Fin 30) : hiE b = ((((b.val : ℝ) + 1) / 30 : ℝ) : EReal) := by
  have h : (IntOp.addi (BitVec.ofNat 32 b.val) 1#32).toInt = (b.val : ℤ) + 1 := by revert b; decide
  unfold hiE
  rw [word30]
  show Ideal.div (((IntOp.addi (BitVec.ofNat 32 b.val) 1#32).toInt : ℝ) : EReal) _ = _
  rw [h, div30]
  norm_num

/-- The slack of the last bin's upper edge is not negative. -/
theorem slack_real : ∃ s : ℝ, 0 ≤ s ∧ Ideal.ofBits .f32 981668463#32 = (s : EReal) := by
  refine ⟨8589935 / 8589934592, by norm_num, ?_⟩
  simp [Ideal.ofBits, Ideal.ieee]
  rw [← EReal.coe_mul]
  norm_num

/-- The least word. -/
theorem word_bot : Ideal.ofBits .f32 4286578688#32 = ⊥ := by
  simp [Ideal.ofBits, Ideal.ieee]

/-- Two conditions select together. -/
theorem select_both (P Q : Prop) [Decidable P] [Decidable Q] (a : EReal) :
    Scalar.select (IntOp.andi (BitVec.ofBool (decide P)) (BitVec.ofBool (decide Q))) a 0 = if P ∧ Q then a else 0 := by
  by_cases hP : P <;> by_cases hQ : Q <;> simp [hP, hQ] <;> rfl

/-- A truth value counts as one or nothing. -/
theorem bit_count (P : Prop) [Decidable P] :
    FloatOps.uitofp (F := Ideal) .f32 (BitVec.ofBool (decide P)) = if P then (1 : EReal) else 0 := by
  show (((BitVec.ofBool (decide P)).toNat : ℝ) : EReal) = _
  by_cases h : P <;> simp [h]

/-- The last bin's word. -/
theorem last_word (b : Fin 30) : IntOp.cmpi .eq (BitVec.ofNat 32 b.val) 29#32 = BitVec.ofBool (decide (b.val = 29)) := by
  revert b; decide

/-- Three conditions of which the third never holds. -/
theorem bits_or (P Q R S : Prop) [Decidable P] [Decidable Q] [Decidable R] [Decidable S] (h : ¬(R ∧ S)) :
    IntOp.andi (BitVec.ofBool (decide P)) (IntOp.ori (BitVec.ofBool (decide Q))
      (IntOp.andi (BitVec.ofBool (decide R)) (BitVec.ofBool (decide S)))) = BitVec.ofBool (decide (P ∧ Q)) := by
  have hz : IntOp.andi (BitVec.ofBool (decide R)) (BitVec.ofBool (decide S)) = 0#1 := by
    by_cases hR : R
    · have hS : ¬S := fun hS => h ⟨hR, hS⟩
      rw [decide_eq_true hR, decide_eq_false hS]; rfl
    · rw [decide_eq_false hR]
      generalize decide S = s
      revert s; decide
  rw [hz]
  by_cases hP : P <;> by_cases hQ : Q <;> simp [hP, hQ] <;> rfl

/-- Whether a gradient counts in a bin. -/
theorem count_bit (g : ℝ) (h0 : 0 < g) (h1 : g < 1) (b : Fin 30) :
    FloatOps.uitofp (F := Ideal) .f32 (IntOp.andi (BitVec.ofBool (decide (loE b ≤ (g : EReal))))
      (IntOp.ori (BitVec.ofBool (decide ((g : EReal) < hiE b))) (IntOp.andi (IntOp.cmpi .eq (BitVec.ofNat 32 b.val) 29#32)
        (BitVec.ofBool (decide ((g : EReal) = hiE b))))))
      = if hbE (g : EReal) = ((b.val : ℝ) : EReal) then (1 : EReal) else 0 := by
  have hb : (b.val : ℝ) ≤ 29 := by exact_mod_cast (by omega : b.val ≤ 29)
  have e : IntOp.andi (BitVec.ofBool (decide (loE b ≤ (g : EReal))))
      (IntOp.ori (BitVec.ofBool (decide ((g : EReal) < hiE b))) (IntOp.andi (IntOp.cmpi .eq (BitVec.ofNat 32 b.val) 29#32)
        (BitVec.ofBool (decide ((g : EReal) = hiE b)))))
      = BitVec.ofBool (decide (hbE (g : EReal) = ((b.val : ℝ) : EReal))) := by
    have hlast : ¬(b.val = 29 ∧ g = ((b.val : ℝ) + 1) / 30) := by
      rintro ⟨h, hg⟩
      rw [h] at hg
      push_cast at hg
      linarith
    rw [last_word, loE_real, hiE_real]
    simp only [EReal.coe_le_coe_iff, EReal.coe_lt_coe_iff, EReal.coe_eq_coe_iff]
    rw [bits_or _ _ _ _ hlast]
    exact congrArg BitVec.ofBool (decide_eq_decide.mpr (hbE_iff g h0 h1 b.val).symm)
  rw [e, bit_count]

/-- Whether a gradient weighs in a bin. -/
theorem weigh_bit (g : ℝ) (h0 : 0 < g) (h1 : g < 1) (b : Fin 30) (a : EReal) :
    Scalar.select (IntOp.andi (BitVec.ofBool (decide (loE b < (g : EReal)))) (BitVec.ofBool (decide ((g : EReal)
      ≤ Scalar.select (IntOp.cmpi .eq (BitVec.ofNat 32 b.val) 29#32) (hiE b + Ideal.ofBits .f32 981668463#32) (hiE b))))) a 0
      = if wbE (g : EReal) = ((b.val : ℝ) : EReal) then a else 0 := by
  obtain ⟨s, hs, hw⟩ := slack_real
  have hsel : Scalar.select (IntOp.cmpi .eq (BitVec.ofNat 32 b.val) 29#32) (hiE b + Ideal.ofBits .f32 981668463#32) (hiE b)
      = if b.val = 29 then hiE b + Ideal.ofBits .f32 981668463#32 else hiE b := by
    rw [last_word]
    by_cases h : b.val = 29
    · rw [decide_eq_true h, if_pos h]; rfl
    · rw [decide_eq_false h, if_neg h]; rfl
  rw [select_both, hsel]
  refine if_congr ?_ rfl rfl
  rw [wbE_iff g h0 h1 b.val, loE_real, hiE_real, hw, ← EReal.coe_add, EReal.coe_lt_coe_iff]
  refine and_congr Iff.rfl ?_
  split_ifs with h
  · rw [EReal.coe_le_coe_iff, h]
    push_cast
    constructor <;> intro _ <;> linarith
  · rw [EReal.coe_le_coe_iff]

/-! ## A pixel -/

variable (X : FVec Ideal S8x19x512x512 .f32) (T : IVec S8x512x512 32)

/-- A pixel's predictions. -/
def row (n : Fin 2097152) : Fin 19 → EReal := fun k => pV X (ix2 n k)

/-- The largest prediction of a pixel. -/
theorem mx_at (n : Fin 2097152) : mxV X (ix1 n) = mxE (row X n) := by
  unfold mxV
  rw [mxOf_at, fold_at, mxE_eq_fold, word_bot]
  exact max_eq_right bot_le

/-- The sum of a pixel's shifted exponentials. -/
theorem sums_at (n : Fin 2097152) : sumsV X (ix1 n) = dnE (row X n) := by
  unfold sumsV shV
  rw [sumsOf_at, dnE_eq_sum]
  refine Finset.sum_congr rfl fun k _ => ?_
  rw [shOf_at, mx_at]
  rfl

variable (n : Fin 2097152) (j : Fin 19) (hj : tV T (ix1 n) = BitVec.ofNat 32 j.val)

include hj in
/-- The pixel is not masked. -/
theorem unmasked : maskV T (ix1 n) = 1#1 := by
  rw [mask_at, hj]
  clear hj
  revert j
  decide

include hj in
/-- The gradient of a pixel. -/
theorem grad_at : gradV X T (ix1 n) = grE (row X n) (BitVec.ofNat 32 j.val) := by
  unfold gradV probV
  rw [gradOf_at, unmasked T n j hj, probOf_at, sums_at, ← ref_gr]
  show FloatOps.absf (F := Ideal) (φ := .f32) _ = _
  refine congrArg (fun z : EReal => FloatOps.absf (F := Ideal) (φ := .f32) (z - 1)) (Finset.sum_congr rfl fun k _ => ?_)
  unfold shV
  rw [shOf_at, mx_at, oh_at, hj]
  rfl

include hj in
/-- The cross entropy of a pixel. -/
theorem ce_at (r : Fin 19 → ℝ) (hr : ∀ k, row X n k = (r k : EReal)) :
    ceV X T (ix1 n) = ceE (row X n) (BitVec.ofNat 32 j.val) := by
  unfold ceV logpV
  rw [ceOf_at, unmasked T n j hj, logpOf_at, sums_at, ← ref_ce (row X n) r hr]
  show -_ = _
  refine congrArg (fun z : EReal => -z) (Finset.sum_congr rfl fun k _ => ?_)
  unfold shV
  rw [shOf_at, mx_at, oh_at, hj]
  rfl

end Cert.ReferenceIdeal.Ghm

namespace Cert.ReferenceIdeal.Ghm

open Idealize.ShloMosaic Idealize.ShloMosaic.TcCoe
open Cert.ReferenceIdeal Cert.ReferenceIdeal.Gen
open Cert.Ghm

variable (X : FVec Ideal S8x19x512x512 .f32) (T : IVec S8x512x512 32)

/-! ## All pixels -/

/-- The reference's value is the loss of its pixels. -/
theorem res_loss (hX : ∀ i, ∃ r : ℝ, X i = (r : EReal)) (hT : ∀ i, ∃ j : Fin 19, T i = BitVec.ofNat 32 j.val) :
    resV X T ix0 = loss (fun n => ceE (row X n) (tV T (ix1 n))) (fun n => grE (row X n) (tV T (ix1 n))) := by
  have hrow : ∀ n, ∃ r : Fin 19 → ℝ, ∀ k, row X n k = (r k : EReal) := fun n => by
    refine ⟨fun k => (hX (ix4 (⟨n.val / 262144, by omega⟩ : Fin 8) k (⟨n.val / 512 % 512, by omega⟩ : Fin 512)
      (⟨n.val % 512, by omega⟩ : Fin 512))).choose, fun k => ?_⟩
    unfold row
    rw [p_at]
    exact (hX _).choose_spec
  have hcls : ∀ n, ∃ j : Fin 19, tV T (ix1 n) = BitVec.ofNat 32 j.val := fun n => by
    rw [t_at]; exact hT _
  have hg : ∀ n, gradV X T (ix1 n) = grE (row X n) (tV T (ix1 n)) := fun n => by
    obtain ⟨j, hj⟩ := hcls n
    rw [grad_at X T n j hj, hj]
  have hc : ∀ n, ceV X T (ix1 n) = ceE (row X n) (tV T (ix1 n)) := fun n => by
    obtain ⟨j, hj⟩ := hcls n
    obtain ⟨r, hr⟩ := hrow n
    rw [ce_at X T n j hj r hr, hj]
  have hgr : ∀ n, ∃ g : ℝ, 0 < g ∧ g < 1 ∧ grE (row X n) (tV T (ix1 n)) = (g : EReal) := fun n => by
    obtain ⟨j, hj⟩ := hcls n
    obtain ⟨r, hr⟩ := hrow n
    rw [hj]
    exact (pixel_bounds (row X n) r hr j).2
  have hce : ∀ n, 0 < ceE (row X n) (tV T (ix1 n)) := fun n => by
    obtain ⟨j, hj⟩ := hcls n
    obtain ⟨r, hr⟩ := hrow n
    obtain ⟨e, he, h⟩ := (pixel_bounds (row X n) r hr j).1
    rw [hj, h]
    exact_mod_cast he
  generalize hG : (fun n => grE (row X n) (tV T (ix1 n))) = G at *
  generalize hC : (fun n => ceE (row X n) (tV T (ix1 n))) = C at *
  have hg' : ∀ n, gradV X T (ix1 n) = G n := fun n => (hg n).trans (congrFun hG n)
  have hc' : ∀ n, ceV X T (ix1 n) = C n := fun n => (hc n).trans (congrFun hC n)
  have hgr' : ∀ n, ∃ g : ℝ, 0 < g ∧ g < 1 ∧ G n = (g : EReal) := fun n => by
    obtain ⟨g, a, b, h⟩ := hgr n
    exact ⟨g, a, b, (congrFun hG n).symm.trans h⟩
  have hce' : ∀ n, 0 < C n := fun n => (hce n).trans_eq (congrFun hC n)
  have hacc : ∀ b : Fin 30, accV X T (ix1 b) = ∑ n, if hbE (G n) = ((b.val : ℝ) : EReal) then (1 : EReal) else 0 := fun b => by
    unfold accV
    rw [accOf_at]
    refine Finset.sum_congr rfl fun n _ => ?_
    rw [hg']
    obtain ⟨g, a, b', h⟩ := hgr' n
    rw [h]
    exact count_bit g a b' b
  have hw : ∀ n, wV X T (ix1 n) = ∑ b : Fin 30, if wbE (G n) = ((b.val : ℝ) : EReal)
      then Ideal.div 1 (∑ n, if hbE (G n) = ((b.val : ℝ) : EReal) then (1 : EReal) else 0) else 0 := fun n => by
    unfold wV
    rw [wOf_at]
    refine Finset.sum_congr rfl fun b _ => ?_
    rw [hg', ← hacc]
    obtain ⟨g, a, b', h⟩ := hgr' n
    rw [h]
    exact weigh_bit g a b' b _
  have hA : ∀ b : Fin 30, (0 : EReal) ≤ ∑ n, if hbE (G n) = ((b.val : ℝ) : EReal) then (1 : EReal) else 0 := fun b =>
    Finset.sum_nonneg fun n _ => by split_ifs <;> simp
  unfold resV
  rw [resOf_at]
  unfold loss part
  rw [total_eq C hce' (fun b n => wbE (G n) = ((b.val : ℝ) : EReal)) _ hA,
    total_eq (fun _ => 1) (fun _ => zero_lt_one) (fun b n => wbE (G n) = ((b.val : ℝ) : EReal)) _ hA]
  unfold numV denV
  rw [numOf_at, denOf_at]
  simp only [hc', hw, one_mul]

end Cert.ReferenceIdeal.Ghm

end
-- ==== Proof.lean ====
module

public import proofs.«01_k».proof.Defs
public import proofs.«01_k».proof.Proof.Gen.ReferenceIdeal.Run
public import proofs.«01_k».proof.Proof.Kernel.Frame
public import proofs.«01_k».proof.Proof.KernelIdeal.Value
public import proofs.«01_k».proof.Proof.ReferenceIdeal.Loss
public import Idealize.ShloMosaic.Lib.Quiescent

@[expose] public section

set_option maxRecDepth 16384

noncomputable section

namespace Cert.Proof

open Idealize.ShloMosaic Idealize.SL.Sem Cert.Kernel

/-- The kernel runs on every input, leaves its arguments alone and ends with every counter at zero. -/
theorem frame_p : Cert.quiescent_Kernel := fun m ρ _ => Cert.Kernel.Ghm.frame m ρ

/-- The same for the ideal kernel. -/
theorem frame_pi : Cert.quiescent_KernelIdeal := fun m ρ _ => Cert.KernelIdeal.Ghm.frame m ρ

/-- The reference is a list of host operations, none of which writes an argument; it declares no semaphore. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The side conditions of the precondition's operations. -/
theorem pre_facts : Cert.Pre_finite_and_classes.Facts := ⟨by decide, by decide⟩

/-- The ideal kernel's frame, on the inputs of the value claim. -/
theorem frame_pi_pre : Cert.quiescent_KernelIdeal_pre_finite_and_classes (hPre_finite_and_classes := pre_facts) :=
  fun m ρ _ => frame_pi m ρ trivial

/-- The reference's frame, on the inputs of the value claim. -/
theorem frame_ri_pre : Cert.quiescent_ReferenceIdeal_pre_finite_and_classes (hPre_finite_and_classes := pre_facts) :=
  fun m ρ _ => frame_ri m ρ trivial

/-! ## What the precondition says of an element -/

/-- A number whose absolute value is below infinity is a real. -/
theorem real_of_lt (x : EReal) (h : FloatOps.cmpf (F := Ideal) (φ := .f32) .olt (FloatOps.absf (F := Ideal) (φ := .f32) x)
    (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    have h' : BitVec.ofBool (decide (max x (-x) < ⊤)) = 1#1 := h
    rw [decide_eq_false hn] at h'
    exact absurd h' (by decide)
  induction x using EReal.rec with
  | bot => simp at hlt
  | coe r => exact ⟨r, rfl⟩
  | top => simp at hlt

/-- A word from zero below nineteen is a class. -/
theorem class_of_range (t : BitVec 32) (h : IntOp.andi (IntOp.cmpi .sge t 0#32) (IntOp.cmpi .slt t 19#32) = 1#1) :
    ∃ j : Fin 19, t = BitVec.ofNat 32 j.val := by
  have hb : (0#32).sle t = true ∧ t.slt 19#32 = true := by
    have h' : BitVec.ofBool ((0#32).sle t) &&& BitVec.ofBool (t.slt 19#32) = 1#1 := h
    generalize (0#32).sle t = a at *
    generalize t.slt 19#32 = b at *
    revert a b
    decide
  rw [BitVec.sle_iff_toInt_le, BitVec.slt_iff_toInt_lt] at hb
  have h0 : (0#32).toInt = 0 := by decide
  have h19 : (19#32).toInt = 19 := by decide
  rw [h0, h19] at hb
  have hn := BitVec.toInt_eq_toNat_cond t
  have hlt := t.isLt
  refine ⟨⟨t.toNat, by split_ifs at hn <;> omega⟩, ?_⟩
  simp

/-- Where the precondition holds, every prediction is a real. -/
theorem real_of_pre (X : FVec Ideal Cert.Pre_finite_and_classes.S8x19x512x512 .f32)
    (T : IVec Cert.Pre_finite_and_classes.S8x512x512 32)
    (h : (@Cert.Pre_finite_and_classes.fn pre_facts Ideal _ X T).1 = fun _ => 1#1) (i) : ∃ r : ℝ, X i = (r : EReal) :=
  real_of_lt (X i) (congrFun h i)

/-- Where the precondition holds, every target is a class. -/
theorem class_of_pre (X : FVec Ideal Cert.Pre_finite_and_classes.S8x19x512x512 .f32)
    (T : IVec Cert.Pre_finite_and_classes.S8x512x512 32)
    (h : (@Cert.Pre_finite_and_classes.fn pre_facts Ideal _ X T).2 = fun _ => 1#1) (i) :
    ∃ j : Fin 19, T i = BitVec.ofNat 32 j.val :=
  class_of_range (T i) (congrFun h i)

/-- The reference's result, on arguments of the kernel that satisfy the precondition: the loss the kernel returns. -/
theorem ref_value (m : (ℓ : Loc Cert.KernelIdeal.nD Cert.KernelIdeal.τ Cert.KernelIdeal.sig) → Buf (Elt Ideal) ℓ)
    (c : Dev Cert.KernelIdeal.nD) (X : FVec Ideal Cert.ReferenceIdeal.S8x19x512x512 .f32) (T : IVec Cert.ReferenceIdeal.S8x512x512 32)
    (hX : X = m ((c.tc : Thread Cert.KernelIdeal.nD Cert.KernelIdeal.τ).loc Cert.KernelIdeal.main_arg0))
    (hT : T = m ((c.tc : Thread Cert.KernelIdeal.nD Cert.KernelIdeal.τ).loc Cert.KernelIdeal.main_arg1))
    (hr : ∀ i, ∃ r : ℝ, X i = (r : EReal)) (hc : ∀ i, ∃ j : Fin 19, T i = BitVec.ofNat 32 j.val) :
    Cert.ReferenceIdeal.Ghm.resV X T = fun _ => Cert.Ghm.loss (Cert.KernelIdeal.Ghm.ceK m c) (Cert.KernelIdeal.Ghm.grK m c) := by
  have hrow : ∀ n, Cert.ReferenceIdeal.Ghm.row X n = Cert.KernelIdeal.Ghm.rowK m c n := fun n => by
    funext k
    unfold Cert.ReferenceIdeal.Ghm.row Cert.KernelIdeal.Ghm.rowK
    rw [Cert.ReferenceIdeal.Ghm.p_at, hX]
  have hcls : ∀ n, Cert.ReferenceIdeal.Ghm.tV T (ix1 n) = Cert.KernelIdeal.Ghm.clsK m c n := fun n => by
    unfold Cert.KernelIdeal.Ghm.clsK
    rw [Cert.ReferenceIdeal.Ghm.t_at, hT]
  funext i
  obtain rfl : i = ix0 := funext fun a => a.elim0
  rw [Cert.ReferenceIdeal.Ghm.res_loss X T hr hc]
  simp only [hrow, hcls]
  rfl

/-- The ideal kernel and the reference return the same number, on finite predictions and targets that are classes. -/
theorem value : Cert.algebraic_KernelIdeal_ReferenceIdeal_pre_finite_and_classes (hPre_finite_and_classes := pre_facts) :=
  fun m g m' g' hpre hagree =>
    ⟨fun c _ => Cert.Ghm.loss (Cert.KernelIdeal.Ghm.ceK m c) (Cert.KernelIdeal.Ghm.grK m c), Cert.KernelIdeal.Ghm.run_loss m g,
      (θ_run Cert.ReferenceIdeal.defs _ _).mono
        (fun r h c => ⟨(h c).1.trans ((Cert.ReferenceIdeal.Ghm.res_eq m' c).trans
            (ref_value m c _ _ (hagree c).1 (hagree c).2
              (fun i => by rw [(hagree c).1]; exact real_of_pre _ _ (hpre c).1 i)
              (fun i => by rw [(hagree c).2]; exact class_of_pre _ _ (hpre c).2 i))), (h c).2⟩)
        (Cert.ReferenceIdeal.Value.run m' g')⟩

/-- Everything certified. -/
theorem claim : Cert.Claim :=
  ⟨Cert.Kernel.Gen.facts, Cert.KernelIdeal.Gen.facts, Cert.ReferenceIdeal.Gen.facts, pre_facts,
    frame_p, frame_pi, frame_pi_pre, frame_ri, frame_ri_pre, trivial, value⟩

end Cert.Proof

end
